-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v73)) (v1 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_v74) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v196) = v0 c
          ∧ r.2.mem ((c.tc : Thread Cert.ReferenceIdeal.nD Cert.ReferenceIdeal.τ).loc Cert.ReferenceIdeal.main_v178) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x640x32768 : Shape := ⟨3, ![3, 640, 32768]⟩
abbrev S32768 : Shape := ⟨1, ![32768]⟩
abbrev S512 : Shape := ⟨1, ![512]⟩
abbrev S1920x32768 : Shape := ⟨2, ![1920, 32768]⟩
abbrev S1x32768 : Shape := ⟨2, ![1, 32768]⟩
abbrev S16x32768 : Shape := ⟨2, ![16, 32768]⟩
abbrev S512x1 : Shape := ⟨2, ![512, 1]⟩
abbrev S1x512 : Shape := ⟨2, ![1, 512]⟩
abbrev S512x512 : Shape := ⟨2, ![512, 512]⟩
abbrev S_ : Shape := ⟨0, ![]⟩
abbrev S1920x16384 : Shape := ⟨2, ![1920, 16384]⟩
abbrev S1920x256 : Shape := ⟨2, ![1920, 256]⟩
abbrev S32x32768 : Shape := ⟨2, ![32, 32768]⟩
abbrev S32x16384 : Shape := ⟨2, ![32, 16384]⟩
abbrev S32x256 : Shape := ⟨2, ![32, 256]⟩
abbrev S8x8x4x32x128 : Shape := ⟨5, ![8, 8, 4, 32, 128]⟩
abbrev S4x32x128 : Shape := ⟨3, ![4, 32, 128]⟩
abbrev S16x512 : Shape := ⟨2, ![16, 512]⟩
abbrev S256x512 : Shape := ⟨2, ![256, 512]⟩
abbrev S32x512 : Shape := ⟨2, ![32, 512]⟩
abbrev S32x128 : Shape := ⟨2, ![32, 128]⟩
abbrev S1x1x1x32x128 : Shape := ⟨5, ![1, 1, 1, 32, 128]⟩
abbrev S1x1x1x8x128 : Shape := ⟨5, ![1, 1, 1, 8, 128]⟩
abbrev S8x128 : Shape := ⟨2, ![8, 128]⟩
abbrev S128x128 : Shape := ⟨2, ![128, 128]⟩
abbrev S64x128 : Shape := ⟨2, ![64, 128]⟩
abbrev S128 : Shape := ⟨1, ![128]⟩
abbrev S1x128 : Shape := ⟨2, ![1, 128]⟩
abbrev S2x128 : Shape := ⟨2, ![2, 128]⟩
abbrev S1x2x128 : Shape := ⟨3, ![1, 2, 128]⟩
abbrev S16x128 : Shape := ⟨2, ![16, 128]⟩
abbrev S1x32x128 : Shape := ⟨3, ![1, 32, 128]⟩
abbrev S3x640x16384 : Shape := ⟨3, ![3, 640, 16384]⟩
abbrev S3x640x256 : Shape := ⟨3, ![3, 640, 256]⟩

abbrev nBuf : Space → Nat
  | .hbm => 104
  | .vmem => 10
  | .smem => 0
  | _ => 0

abbrev bufTy : (tb : Table) → Fin (tcTables nBuf tb) → BufTy
  | .hbm, ⟨0, _⟩ => ⟨S3x640x32768, .bf16⟩
  | .hbm, ⟨1, _⟩ => ⟨S32768, .f32⟩
  | .hbm, ⟨2, _⟩ => ⟨S512, .i32⟩
  | .hbm, ⟨3, _⟩ => ⟨S512, .i1⟩
  | .hbm, ⟨4, _⟩ => ⟨S1920x32768, .bf16⟩
  | .hbm, ⟨5, _⟩ => ⟨S32768, .bf16⟩
  | .hbm, ⟨6, _⟩ => ⟨S1x32768, .bf16⟩
  | .hbm, ⟨7, _⟩ => ⟨S16x32768, .bf16⟩
  | .hbm, ⟨8, _⟩ => ⟨S512, .i32⟩
  | .hbm, ⟨9, _⟩ => ⟨S512x1, .i32⟩
  | .hbm, ⟨10, _⟩ => ⟨S1x512, .i32⟩
  | .hbm, ⟨11, _⟩ => ⟨S512x512, .i32⟩
  | .hbm, ⟨12, _⟩ => ⟨S512x512, .i32⟩
  | .hbm, ⟨13, _⟩ => ⟨S512x512, .i32⟩
  | .hbm, ⟨14, _⟩ => ⟨S_, .i32⟩
  | .hbm, ⟨15, _⟩ => ⟨S512x512, .i32⟩
  | .hbm, ⟨16, _⟩ => ⟨S_, .i32⟩
  | .hbm, ⟨17, _⟩ => ⟨S512x512, .i32⟩
  | .hbm, ⟨18, _⟩ => ⟨S512x512, .i32⟩
  | .hbm, ⟨19, _⟩ => ⟨S_, .i32⟩
  | .hbm, ⟨20, _⟩ => ⟨S512x512, .i32⟩
  | .hbm, ⟨21, _⟩ => ⟨S512x512, .i32⟩
  | .hbm, ⟨22, _⟩ => ⟨S512x512, .i32⟩
  | .hbm, ⟨23, _⟩ => ⟨S_, .i32⟩
  | .hbm, ⟨24, _⟩ => ⟨S512x512, .i32⟩
  | .hbm, ⟨25, _⟩ => ⟨S512x512, .i32⟩
  | .hbm, ⟨26, _⟩ => ⟨S_, .i32⟩
  | .hbm, ⟨27, _⟩ => ⟨S512x512, .i32⟩
  | .hbm, ⟨28, _⟩ => ⟨S512x512, .i32⟩
  | .hbm, ⟨29, _⟩ => ⟨S512x512, .i32⟩
  | .hbm, ⟨30, _⟩ => ⟨S_, .i32⟩
  | .hbm, ⟨31, _⟩ => ⟨S512x512, .i32⟩
  | .hbm, ⟨32, _⟩ => ⟨S512x512, .i32⟩
  | .hbm, ⟨33, _⟩ => ⟨S_, .i32⟩
  | .hbm, ⟨34, _⟩ => ⟨S512x512, .i32⟩
  | .hbm, ⟨35, _⟩ => ⟨S512x512, .i32⟩
  | .hbm, ⟨36, _⟩ => ⟨S512x512, .i32⟩
  | .hbm, ⟨37, _⟩ => ⟨S_, .i32⟩
  | .hbm, ⟨38, _⟩ => ⟨S512x512, .i32⟩
  | .hbm, ⟨39, _⟩ => ⟨S512x512, .i32⟩
  | .hbm, ⟨40, _⟩ => ⟨S_, .i32⟩
  | .hbm, ⟨41, _⟩ => ⟨S512x512, .i32⟩
  | .hbm, ⟨42, _⟩ => ⟨S512x512, .i32⟩
  | .hbm, ⟨43, _⟩ => ⟨S512x512, .i32⟩
  | .hbm, ⟨44, _⟩ => ⟨S_, .i32⟩
  | .hbm, ⟨45, _⟩ => ⟨S512x512, .i32⟩
  | .hbm, ⟨46, _⟩ => ⟨S512x512, .i32⟩
  | .hbm, ⟨47, _⟩ => ⟨S_, .i32⟩
  | .hbm, ⟨48, _⟩ => ⟨S512x512, .i32⟩
  | .hbm, ⟨49, _⟩ => ⟨S512x512, .i32⟩
  | .hbm, ⟨50, _⟩ => ⟨S512x512, .i32⟩
  | .hbm, ⟨51, _⟩ => ⟨S_, .i32⟩
  | .hbm, ⟨52, _⟩ => ⟨S512x512, .i32⟩
  | .hbm, ⟨53, _⟩ => ⟨S512x512, .i32⟩
  | .hbm, ⟨54, _⟩ => ⟨S_, .i32⟩
  | .hbm, ⟨55, _⟩ => ⟨S512x512, .i32⟩
  | .hbm, ⟨56, _⟩ => ⟨S512x512, .i32⟩
  | .hbm, ⟨57, _⟩ => ⟨S512x512, .i32⟩
  | .hbm, ⟨58, _⟩ => ⟨S_, .i32⟩
  | .hbm, ⟨59, _⟩ => ⟨S512x512, .i32⟩
  | .hbm, ⟨60, _⟩ => ⟨S512x512, .i32⟩
  | .hbm, ⟨61, _⟩ => ⟨S_, .i32⟩
  | .hbm, ⟨62, _⟩ => ⟨S512x512, .i32⟩
  | .hbm, ⟨63, _⟩ => ⟨S512x512, .i32⟩
  | .hbm, ⟨64, _⟩ => ⟨S512x512, .i32⟩
  | .hbm, ⟨65, _⟩ => ⟨S_, .i32⟩
  | .hbm, ⟨66, _⟩ => ⟨S512x512, .i32⟩
  | .hbm, ⟨67, _⟩ => ⟨S512x512, .i32⟩
  | .hbm, ⟨68, _⟩ => ⟨S_, .i32⟩
  | .hbm, ⟨69, _⟩ => ⟨S512x512, .i32⟩
  | .hbm, ⟨70, _⟩ => ⟨S512x512, .i32⟩
  | .hbm, ⟨71, _⟩ => ⟨S512x512, .i32⟩
  | .hbm, ⟨72, _⟩ => ⟨S_, .i32⟩
  | .hbm, ⟨73, _⟩ => ⟨S512x512, .i32⟩
  | .hbm, ⟨74, _⟩ => ⟨S512x512, .i32⟩
  | .hbm, ⟨75, _⟩ => ⟨S_, .i32⟩
  | .hbm, ⟨76, _⟩ => ⟨S512x512, .i32⟩
  | .hbm, ⟨77, _⟩ => ⟨S512x512, .i32⟩
  | .hbm, ⟨78, _⟩ => ⟨S512x512, .i32⟩
  | .hbm, ⟨79, _⟩ => ⟨S_, .i32⟩
  | .hbm, ⟨80, _⟩ => ⟨S512x512, .i32⟩
  | .hbm, ⟨81, _⟩ => ⟨S512x512, .i32⟩
  | .hbm, ⟨82, _⟩ => ⟨S_, .i32⟩
  | .hbm, ⟨83, _⟩ => ⟨S512x512, .i32⟩
  | .hbm, ⟨84, _⟩ => ⟨S512x512, .i32⟩
  | .hbm, ⟨85, _⟩ => ⟨S512x512, .i32⟩
  | .hbm, ⟨86, _⟩ => ⟨S512x512, .f32⟩
  | .hbm, ⟨87, _⟩ => ⟨S_, .f32⟩
  | .hbm, ⟨88, _⟩ => ⟨S512x512, .f32⟩
  | .hbm, ⟨89, _⟩ => ⟨S512x512, .f32⟩
  | .hbm, ⟨90, _⟩ => ⟨S_, .f32⟩
  | .hbm, ⟨91, _⟩ => ⟨S512x512, .f32⟩
  | .hbm, ⟨92, _⟩ => ⟨S512x512, .f32⟩
  | .hbm, ⟨93, _⟩ => ⟨S_, .i32⟩
  | .hbm, ⟨94, _⟩ => ⟨S512, .i32⟩
  | .hbm, ⟨95, _⟩ => ⟨S512, .i32⟩
  | .hbm, ⟨96, _⟩ => ⟨S512, .i32⟩
  | .hbm, ⟨97, _⟩ => ⟨S512x1, .i32⟩
  | .hbm, ⟨98, _⟩ => ⟨S512x512, .f32⟩
  | .hbm, ⟨99, _⟩ => ⟨S512x512, .bf16⟩
  | .hbm, ⟨100, _⟩ => ⟨S1920x16384, .i8⟩
  | .hbm, ⟨101, _⟩ => ⟨S1920x256, .f32⟩
  | .hbm, ⟨102, _⟩ => ⟨S3x640x16384, .i8⟩
  | .hbm, ⟨103, _⟩ => ⟨S3x640x256, .f32⟩
  | .local _ .vmem, ⟨0, _⟩ => ⟨S32x32768, .bf16⟩
  | .local _ .vmem, ⟨1, _⟩ => ⟨S32x32768, .bf16⟩
  | .local _ .vmem, ⟨2, _⟩ => ⟨S16x32768, .bf16⟩
  | .local _ .vmem, ⟨3, _⟩ => ⟨S512x512, .bf16⟩
  | .local _ .vmem, ⟨4, _⟩ => ⟨S32x16384, .i8⟩
  | .local _ .vmem, ⟨5, _⟩ => ⟨S32x16384, .i8⟩
  | .local _ .vmem, ⟨6, _⟩ => ⟨S32x256, .f32⟩
  | .local _ .vmem, ⟨7, _⟩ => ⟨S32x256, .f32⟩
  | .local _ .vmem, ⟨8, _⟩ => ⟨S8x8x4x32x128, .f32⟩
  | .local _ .vmem, ⟨9, _⟩ => ⟨S4x32x128, .f32⟩
  | _, _ => ⟨S3x640x32768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c_1 : Ref sig .tc := ⟨.hbm, 14, rfl⟩
abbrev main_v10 : Ref sig .tc := ⟨.hbm, 15, rfl⟩
abbrev main_c_2 : Ref sig .tc := ⟨.hbm, 16, rfl⟩
abbrev main_v11 : Ref sig .tc := ⟨.hbm, 17, rfl⟩
abbrev main_v12 : Ref sig .tc := ⟨.hbm, 18, rfl⟩
abbrev main_c_3 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_4 : Ref sig .tc := ⟨.hbm, 23, rfl⟩
abbrev main_v16 : Ref sig .tc := ⟨.hbm, 24, rfl⟩
abbrev main_v17 : Ref sig .tc := ⟨.hbm, 25, rfl⟩
abbrev main_c_5 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_6 : Ref sig .tc := ⟨.hbm, 30, rfl⟩
abbrev main_v21 : Ref sig .tc := ⟨.hbm, 31, rfl⟩
abbrev main_v22 : Ref sig .tc := ⟨.hbm, 32, rfl⟩
abbrev main_c_7 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_8 : Ref sig .tc := ⟨.hbm, 37, rfl⟩
abbrev main_v26 : Ref sig .tc := ⟨.hbm, 38, rfl⟩
abbrev main_v27 : Ref sig .tc := ⟨.hbm, 39, rfl⟩
abbrev main_c_9 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_10 : Ref sig .tc := ⟨.hbm, 44, rfl⟩
abbrev main_v31 : Ref sig .tc := ⟨.hbm, 45, rfl⟩
abbrev main_v32 : Ref sig .tc := ⟨.hbm, 46, rfl⟩
abbrev main_c_11 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_c_12 : Ref sig .tc := ⟨.hbm, 51, rfl⟩
abbrev main_v36 : Ref sig .tc := ⟨.hbm, 52, rfl⟩
abbrev main_v37 : Ref sig .tc := ⟨.hbm, 53, rfl⟩
abbrev main_c_13 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_c_14 : Ref sig .tc := ⟨.hbm, 58, rfl⟩
abbrev main_v41 : Ref sig .tc := ⟨.hbm, 59, rfl⟩
abbrev main_v42 : Ref sig .tc := ⟨.hbm, 60, rfl⟩
abbrev main_c_15 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_16 : Ref sig .tc := ⟨.hbm, 65, rfl⟩
abbrev main_v46 : Ref sig .tc := ⟨.hbm, 66, rfl⟩
abbrev main_v47 : Ref sig .tc := ⟨.hbm, 67, rfl⟩
abbrev main_c_17 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_c_18 : Ref sig .tc := ⟨.hbm, 72, rfl⟩
abbrev main_v51 : Ref sig .tc := ⟨.hbm, 73, rfl⟩
abbrev main_v52 : Ref sig .tc := ⟨.hbm, 74, rfl⟩
abbrev main_c_19 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_20 : Ref sig .tc := ⟨.hbm, 79, rfl⟩
abbrev main_v56 : Ref sig .tc := ⟨.hbm, 80, rfl⟩
abbrev main_v57 : Ref sig .tc := ⟨.hbm, 81, rfl⟩
abbrev main_c_21 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst : Ref sig .tc := ⟨.hbm, 87, rfl⟩
abbrev main_v62 : Ref sig .tc := ⟨.hbm, 88, rfl⟩
abbrev main_v63 : Ref sig .tc := ⟨.hbm, 89, rfl⟩
abbrev main_cst_22 : Ref sig .tc := ⟨.hbm, 90, rfl⟩
abbrev main_v64 : Ref sig .tc := ⟨.hbm, 91, rfl⟩
abbrev main_v65 : Ref sig .tc := ⟨.hbm, 92, rfl⟩
abbrev main_c_23 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72_0 : Ref sig .tc := ⟨.hbm, 100, rfl⟩
abbrev main_v72_1 : Ref sig .tc := ⟨.hbm, 101, rfl⟩
abbrev main_v73 : Ref sig .tc := ⟨.hbm, 102, rfl⟩
abbrev main_v74 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![60], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x32768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x32768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S32x16384 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S3x640x32768 : Shape := ⟨3, ![3, 640, 32768]⟩
abbrev S32768 : Shape := ⟨1, ![32768]⟩
abbrev S1x1x32768 : Shape := ⟨3, ![1, 1, 32768]⟩
abbrev S3x640x16384x2x1 : Shape := ⟨5, ![3, 640, 16384, 2, 1]⟩
abbrev S3x640x16384x1x1 : Shape := ⟨5, ![3, 640, 16384, 1, 1]⟩
abbrev S3x640x16384x1 : Shape := ⟨4, ![3, 640, 16384, 1]⟩
abbrev S3x640x8192x2x2 : Shape := ⟨5, ![3, 640, 8192, 2, 2]⟩
abbrev S3x640x8192x1x2 : Shape := ⟨5, ![3, 640, 8192, 1, 2]⟩
abbrev S3x640x8192x2 : Shape := ⟨4, ![3, 640, 8192, 2]⟩
abbrev S3x640x4096x2x4 : Shape := ⟨5, ![3, 640, 4096, 2, 4]⟩
abbrev S3x640x4096x1x4 : Shape := ⟨5, ![3, 640, 4096, 1, 4]⟩
abbrev S3x640x4096x4 : Shape := ⟨4, ![3, 640, 4096, 4]⟩
abbrev S3x640x2048x2x8 : Shape := ⟨5, ![3, 640, 2048, 2, 8]⟩
abbrev S3x640x2048x1x8 : Shape := ⟨5, ![3, 640, 2048, 1, 8]⟩
abbrev S3x640x2048x8 : Shape := ⟨4, ![3, 640, 2048, 8]⟩
abbrev S3x640x1024x2x16 : Shape := ⟨5, ![3, 640, 1024, 2, 16]⟩
abbrev S3x640x1024x1x16 : Shape := ⟨5, ![3, 640, 1024, 1, 16]⟩
abbrev S3x640x1024x16 : Shape := ⟨4, ![3, 640, 1024, 16]⟩
abbrev S3x640x512x2x32 : Shape := ⟨5, ![3, 640, 512, 2, 32]⟩
abbrev S3x640x512x1x32 : Shape := ⟨5, ![3, 640, 512, 1, 32]⟩
abbrev S3x640x512x32 : Shape := ⟨4, ![3, 640, 512, 32]⟩
abbrev S3x640x256x2x64 : Shape := ⟨5, ![3, 640, 256, 2, 64]⟩
abbrev S3x640x256x1x64 : Shape := ⟨5, ![3, 640, 256, 1, 64]⟩
abbrev S3x640x256x64 : Shape := ⟨4, ![3, 640, 256, 64]⟩
abbrev S3x640x128x2x128 : Shape := ⟨5, ![3, 640, 128, 2, 128]⟩
abbrev S3x640x128x1x128 : Shape := ⟨5, ![3, 640, 128, 1, 128]⟩
abbrev S3x640x128x128 : Shape := ⟨4, ![3, 640, 128, 128]⟩
abbrev S3x640x64x2x256 : Shape := ⟨5, ![3, 640, 64, 2, 256]⟩
abbrev S3x640x64x1x256 : Shape := ⟨5, ![3, 640, 64, 1, 256]⟩
abbrev S3x640x64x256 : Shape := ⟨4, ![3, 640, 64, 256]⟩
abbrev S3x640x32x2x512 : Shape := ⟨5, ![3, 640, 32, 2, 512]⟩
abbrev S3x640x32x1x512 : Shape := ⟨5, ![3, 640, 32, 1, 512]⟩
abbrev S3x640x32x512 : Shape := ⟨4, ![3, 640, 32, 512]⟩
abbrev S3x640x16x2x1024 : Shape := ⟨5, ![3, 640, 16, 2, 1024]⟩
abbrev S3x640x16x1x1024 : Shape := ⟨5, ![3, 640, 16, 1, 1024]⟩
abbrev S3x640x16x1024 : Shape := ⟨4, ![3, 640, 16, 1024]⟩
abbrev S3x640x8x2x2048 : Shape := ⟨5, ![3, 640, 8, 2, 2048]⟩
abbrev S3x640x8x1x2048 : Shape := ⟨5, ![3, 640, 8, 1, 2048]⟩
abbrev S3x640x8x2048 : Shape := ⟨4, ![3, 640, 8, 2048]⟩
abbrev S3x640x4x2x4096 : Shape := ⟨5, ![3, 640, 4, 2, 4096]⟩
abbrev S3x640x4x1x4096 : Shape := ⟨5, ![3, 640, 4, 1, 4096]⟩
abbrev S3x640x4x4096 : Shape := ⟨4, ![3, 640, 4, 4096]⟩
abbrev S3x640x2x2x8192 : Shape := ⟨5, ![3, 640, 2, 2, 8192]⟩
abbrev S3x640x2x1x8192 : Shape := ⟨5, ![3, 640, 2, 1, 8192]⟩
abbrev S3x640x2x8192 : Shape := ⟨4, ![3, 640, 2, 8192]⟩
abbrev S3x640x1x2x16384 : Shape := ⟨5, ![3, 640, 1, 2, 16384]⟩
abbrev S3x640x1x1x16384 : Shape := ⟨5, ![3, 640, 1, 1, 16384]⟩
abbrev S3x640x1x16384 : Shape := ⟨4, ![3, 640, 1, 16384]⟩
abbrev S_ : Shape := ⟨0, ![]⟩
abbrev S3x640x256x128 : Shape := ⟨4, ![3, 640, 256, 128]⟩
abbrev S3x640x256 : Shape := ⟨3, ![3, 640, 256]⟩
abbrev S3x640x256x1 : Shape := ⟨4, ![3, 640, 256, 1]⟩
abbrev S3x640x16384x2 : Shape := ⟨4, ![3, 640, 16384, 2]⟩
abbrev S3x640x16384 : Shape := ⟨3, ![3, 640, 16384]⟩

abbrev nBuf : Space → Nat
  | .hbm => 214
  | .vmem => 0
  | .smem => 0
  | _ => 0

abbrev hbmTy0_0 (i : Nat) : BufTy := match i % 128 with
  | 0 => ⟨S3x640x32768, .bf16⟩
  | 1 => ⟨S32768, .f32⟩
  | 2 => ⟨S3x640x32768, .f32⟩
  | 3 => ⟨S1x1x32768, .f32⟩
  | 4 => ⟨S3x640x32768, .f32⟩
  | 5 => ⟨S3x640x32768, .f32⟩
  | 6 => ⟨S3x640x16384x2x1, .f32⟩
  | 7 => ⟨S3x640x16384x1x1, .f32⟩
  | 8 => ⟨S3x640x16384x1, .f32⟩
  | 9 => ⟨S3x640x16384x1x1, .f32⟩
  | 10 => ⟨S3x640x16384x1, .f32⟩
  | 11 => ⟨S3x640x16384x1, .f32⟩
  | 12 => ⟨S3x640x16384x1, .f32⟩
  | 13 => ⟨S3x640x16384x1x1, .f32⟩
  | 14 => ⟨S3x640x16384x1x1, .f32⟩
  | 15 => ⟨S3x640x16384x2x1, .f32⟩
  | 16 => ⟨S3x640x32768, .f32⟩
  | 17 => ⟨S3x640x8192x2x2, .f32⟩
  | 18 => ⟨S3x640x8192x1x2, .f32⟩
  | 19 => ⟨S3x640x8192x2, .f32⟩
  | 20 => ⟨S3x640x8192x1x2, .f32⟩
  | 21 => ⟨S3x640x8192x2, .f32⟩
  | 22 => ⟨S3x640x8192x2, .f32⟩
  | 23 => ⟨S3x640x8192x2, .f32⟩
  | 24 => ⟨S3x640x8192x1x2, .f32⟩
  | 25 => ⟨S3x640x8192x1x2, .f32⟩
  | 26 => ⟨S3x640x8192x2x2, .f32⟩
  | 27 => ⟨S3x640x32768, .f32⟩
  | 28 => ⟨S3x640x4096x2x4, .f32⟩
  | 29 => ⟨S3x640x4096x1x4, .f32⟩
  | 30 => ⟨S3x640x4096x4, .f32⟩
  | 31 => ⟨S3x640x4096x1x4, .f32⟩
  | 32 => ⟨S3x640x4096x4, .f32⟩
  | 33 => ⟨S3x640x4096x4, .f32⟩
  | 34 => ⟨S3x640x4096x4, .f32⟩
  | 35 => ⟨S3x640x4096x1x4, .f32⟩
  | 36 => ⟨S3x640x4096x1x4, .f32⟩
  | 37 => ⟨S3x640x4096x2x4, .f32⟩
  | 38 => ⟨S3x640x32768, .f32⟩
  | 39 => ⟨S3x640x2048x2x8, .f32⟩
  | 40 => ⟨S3x640x2048x1x8, .f32⟩
  | 41 => ⟨S3x640x2048x8, .f32⟩
  | 42 => ⟨S3x640x2048x1x8, .f32⟩
  | 43 => ⟨S3x640x2048x8, .f32⟩
  | 44 => ⟨S3x640x2048x8, .f32⟩
  | 45 => ⟨S3x640x2048x8, .f32⟩
  | 46 => ⟨S3x640x2048x1x8, .f32⟩
  | 47 => ⟨S3x640x2048x1x8, .f32⟩
  | 48 => ⟨S3x640x2048x2x8, .f32⟩
  | 49 => ⟨S3x640x32768, .f32⟩
  | 50 => ⟨S3x640x1024x2x16, .f32⟩
  | 51 => ⟨S3x640x1024x1x16, .f32⟩
  | 52 => ⟨S3x640x1024x16, .f32⟩
  | 53 => ⟨S3x640x1024x1x16, .f32⟩
  | 54 => ⟨S3x640x1024x16, .f32⟩
  | 55 => ⟨S3x640x1024x16, .f32⟩
  | 56 => ⟨S3x640x1024x16, .f32⟩
  | 57 => ⟨S3x640x1024x1x16, .f32⟩
  | 58 => ⟨S3x640x1024x1x16, .f32⟩
  | 59 => ⟨S3x640x1024x2x16, .f32⟩
  | 60 => ⟨S3x640x32768, .f32⟩
  | 61 => ⟨S3x640x512x2x32, .f32⟩
  | 62 => ⟨S3x640x512x1x32, .f32⟩
  | 63 => ⟨S3x640x512x32, .f32⟩
  | 64 => ⟨S3x640x512x1x32, .f32⟩
  | 65 => ⟨S3x640x512x32, .f32⟩
  | 66 => ⟨S3x640x512x32, .f32⟩
  | 67 => ⟨S3x640x512x32, .f32⟩
  | 68 => ⟨S3x640x512x1x32, .f32⟩
  | 69 => ⟨S3x640x512x1x32, .f32⟩
  | 70 => ⟨S3x640x512x2x32, .f32⟩
  | 71 => ⟨S3x640x32768, .f32⟩
  | 72 => ⟨S3x640x256x2x64, .f32⟩
  | 73 => ⟨S3x640x256x1x64, .f32⟩
  | 74 => ⟨S3x640x256x64, .f32⟩
  | 75 => ⟨S3x640x256x1x64, .f32⟩
  | 76 => ⟨S3x640x256x64, .f32⟩
  | 77 => ⟨S3x640x256x64, .f32⟩
  | 78 => ⟨S3x640x256x64, .f32⟩
  | 79 => ⟨S3x640x256x1x64, .f32⟩
  | 80 => ⟨S3x640x256x1x64, .f32⟩
  | 81 => ⟨S3x640x256x2x64, .f32⟩
  | 82 => ⟨S3x640x32768, .f32⟩
  | 83 => ⟨S3x640x128x2x128, .f32⟩
  | 84 => ⟨S3x640x128x1x128, .f32⟩
  | 85 => ⟨S3x640x128x128, .f32⟩
  | 86 => ⟨S3x640x128x1x128, .f32⟩
  | 87 => ⟨S3x640x128x128, .f32⟩
  | 88 => ⟨S3x640x128x128, .f32⟩
  | 89 => ⟨S3x640x128x128, .f32⟩
  | 90 => ⟨S3x640x128x1x128, .f32⟩
  | 91 => ⟨S3x640x128x1x128, .f32⟩
  | 92 => ⟨S3x640x128x2x128, .f32⟩
  | 93 => ⟨S3x640x32768, .f32⟩
  | 94 => ⟨S3x640x64x2x256, .f32⟩
  | 95 => ⟨S3x640x64x1x256, .f32⟩
  | 96 => ⟨S3x640x64x256, .f32⟩
  | 97 => ⟨S3x640x64x1x256, .f32⟩
  | 98 => ⟨S3x640x64x256, .f32⟩
  | 99 => ⟨S3x640x64x256, .f32⟩
  | 100 => ⟨S3x640x64x256, .f32⟩
  | 101 => ⟨S3x640x64x1x256, .f32⟩
  | 102 => ⟨S3x640x64x1x256, .f32⟩
  | 103 => ⟨S3x640x64x2x256, .f32⟩
  | 104 => ⟨S3x640x32768, .f32⟩
  | 105 => ⟨S3x640x32x2x512, .f32⟩
  | 106 => ⟨S3x640x32x1x512, .f32⟩
  | 107 => ⟨S3x640x32x512, .f32⟩
  | 108 => ⟨S3x640x32x1x512, .f32⟩
  | 109 => ⟨S3x640x32x512, .f32⟩
  | 110 => ⟨S3x640x32x512, .f32⟩
  | 111 => ⟨S3x640x32x512, .f32⟩
  | 112 => ⟨S3x640x32x1x512, .f32⟩
  | 113 => ⟨S3x640x32x1x512, .f32⟩
  | 114 => ⟨S3x640x32x2x512, .f32⟩
  | 115 => ⟨S3x640x32768, .f32⟩
  | 116 => ⟨S3x640x16x2x1024, .f32⟩
  | 117 => ⟨S3x640x16x1x1024, .f32⟩
  | 118 => ⟨S3x640x16x1024, .f32⟩
  | 119 => ⟨S3x640x16x1x1024, .f32⟩
  | 120 => ⟨S3x640x16x1024, .f32⟩
  | 121 => ⟨S3x640x16x1024, .f32⟩
  | 122 => ⟨S3x640x16x1024, .f32⟩
  | 123 => ⟨S3x640x16x1x1024, .f32⟩
  | 124 => ⟨S3x640x16x1x1024, .f32⟩
  | 125 => ⟨S3x640x16x2x1024, .f32⟩
  | 126 => ⟨S3x640x32768, .f32⟩
  | 127 => ⟨S3x640x8x2x2048, .f32⟩
  | _ => ⟨S3x640x32768, .bf16⟩

abbrev hbmTy0_1 (i : Nat) : BufTy := match i % 128 with
  | 0 => ⟨S3x640x8x1x2048, .f32⟩
  | 1 => ⟨S3x640x8x2048, .f32⟩
  | 2 => ⟨S3x640x8x1x2048, .f32⟩
  | 3 => ⟨S3x640x8x2048, .f32⟩
  | 4 => ⟨S3x640x8x2048, .f32⟩
  | 5 => ⟨S3x640x8x2048, .f32⟩
  | 6 => ⟨S3x640x8x1x2048, .f32⟩
  | 7 => ⟨S3x640x8x1x2048, .f32⟩
  | 8 => ⟨S3x640x8x2x2048, .f32⟩
  | 9 => ⟨S3x640x32768, .f32⟩
  | 10 => ⟨S3x640x4x2x4096, .f32⟩
  | 11 => ⟨S3x640x4x1x4096, .f32⟩
  | 12 => ⟨S3x640x4x4096, .f32⟩
  | 13 => ⟨S3x640x4x1x4096, .f32⟩
  | 14 => ⟨S3x640x4x4096, .f32⟩
  | 15 => ⟨S3x640x4x4096, .f32⟩
  | 16 => ⟨S3x640x4x4096, .f32⟩
  | 17 => ⟨S3x640x4x1x4096, .f32⟩
  | 18 => ⟨S3x640x4x1x4096, .f32⟩
  | 19 => ⟨S3x640x4x2x4096, .f32⟩
  | 20 => ⟨S3x640x32768, .f32⟩
  | 21 => ⟨S3x640x2x2x8192, .f32⟩
  | 22 => ⟨S3x640x2x1x8192, .f32⟩
  | 23 => ⟨S3x640x2x8192, .f32⟩
  | 24 => ⟨S3x640x2x1x8192, .f32⟩
  | 25 => ⟨S3x640x2x8192, .f32⟩
  | 26 => ⟨S3x640x2x8192, .f32⟩
  | 27 => ⟨S3x640x2x8192, .f32⟩
  | 28 => ⟨S3x640x2x1x8192, .f32⟩
  | 29 => ⟨S3x640x2x1x8192, .f32⟩
  | 30 => ⟨S3x640x2x2x8192, .f32⟩
  | 31 => ⟨S3x640x32768, .f32⟩
  | 32 => ⟨S3x640x1x2x16384, .f32⟩
  | 33 => ⟨S3x640x1x1x16384, .f32⟩
  | 34 => ⟨S3x640x1x16384, .f32⟩
  | 35 => ⟨S3x640x1x1x16384, .f32⟩
  | 36 => ⟨S3x640x1x16384, .f32⟩
  | 37 => ⟨S3x640x1x16384, .f32⟩
  | 38 => ⟨S3x640x1x16384, .f32⟩
  | 39 => ⟨S3x640x1x1x16384, .f32⟩
  | 40 => ⟨S3x640x1x1x16384, .f32⟩
  | 41 => ⟨S3x640x1x2x16384, .f32⟩
  | 42 => ⟨S3x640x32768, .f32⟩
  | 43 => ⟨S_, .f32⟩
  | 44 => ⟨S3x640x32768, .f32⟩
  | 45 => ⟨S3x640x32768, .f32⟩
  | 46 => ⟨S3x640x256x128, .f32⟩
  | 47 => ⟨S3x640x256x128, .f32⟩
  | 48 => ⟨S_, .f32⟩
  | 49 => ⟨S3x640x256, .f32⟩
  | 50 => ⟨S_, .f32⟩
  | 51 => ⟨S3x640x256, .f32⟩
  | 52 => ⟨S3x640x256, .i1⟩
  | 53 => ⟨S_, .f32⟩
  | 54 => ⟨S3x640x256, .f32⟩
  | 55 => ⟨S3x640x256, .f32⟩
  | 56 => ⟨S_, .f32⟩
  | 57 => ⟨S3x640x256, .f32⟩
  | 58 => ⟨S3x640x256, .f32⟩
  | 59 => ⟨S3x640x256x1, .f32⟩
  | 60 => ⟨S3x640x256x128, .f32⟩
  | 61 => ⟨S3x640x256x128, .f32⟩
  | 62 => ⟨S3x640x256x128, .f32⟩
  | 63 => ⟨S_, .f32⟩
  | 64 => ⟨S_, .f32⟩
  | 65 => ⟨S_, .f32⟩
  | 66 => ⟨S3x640x256x128, .f32⟩
  | 67 => ⟨S3x640x256x128, .f32⟩
  | 68 => ⟨S_, .f32⟩
  | 69 => ⟨S3x640x256x128, .f32⟩
  | 70 => ⟨S3x640x256x128, .f32⟩
  | 71 => ⟨S3x640x256x128, .i32⟩
  | 72 => ⟨S3x640x32768, .i32⟩
  | 73 => ⟨S_, .i32⟩
  | 74 => ⟨S3x640x32768, .i32⟩
  | 75 => ⟨S3x640x32768, .i32⟩
  | 76 => ⟨S3x640x16384x2, .i32⟩
  | 77 => ⟨S3x640x16384x1, .i32⟩
  | 78 => ⟨S3x640x16384, .i32⟩
  | 79 => ⟨S3x640x16384x1, .i32⟩
  | 80 => ⟨S3x640x16384, .i32⟩
  | 81 => ⟨S_, .i32⟩
  | 82 => ⟨S3x640x16384, .i32⟩
  | 83 => ⟨S3x640x16384, .i32⟩
  | 84 => ⟨S3x640x16384, .i32⟩
  | 85 => ⟨S3x640x16384, .i8⟩
  | _ => ⟨S3x640x32768, .bf16⟩

abbrev hbmTy (i : Nat) : BufTy := match i / 128 with
  | 0 => hbmTy0_0 i
  | 1 => hbmTy0_1 i
  | _ => ⟨S3x640x32768, .bf16⟩

abbrev bufTy : (tb : Table) → Fin (tcTables nBuf tb) → BufTy
  | .hbm, ⟨i, _⟩ => hbmTy i
  | _, _ => ⟨S3x640x32768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v39 : Ref sig .tc := ⟨.hbm, 41, rfl⟩
abbrev main_v40 : Ref sig .tc := ⟨.hbm, 42, rfl⟩
abbrev main_v41 : Ref sig .tc := ⟨.hbm, 43, rfl⟩
abbrev main_v42 : Ref sig .tc := ⟨.hbm, 44, rfl⟩
abbrev main_v43 : Ref sig .tc := ⟨.hbm, 45, rfl⟩
abbrev main_v44 : Ref sig .tc := ⟨.hbm, 46, rfl⟩
abbrev main_v45 : Ref sig .tc := ⟨.hbm, 47, rfl⟩
abbrev main_v46 : Ref sig .tc := ⟨.hbm, 48, rfl⟩
abbrev main_v47 : Ref sig .tc := ⟨.hbm, 49, rfl⟩
abbrev main_v48 : Ref sig .tc := ⟨.hbm, 50, rfl⟩
abbrev main_v49 : Ref sig .tc := ⟨.hbm, 51, rfl⟩
abbrev main_v50 : Ref sig .tc := ⟨.hbm, 52, rfl⟩
abbrev main_v51 : Ref sig .tc := ⟨.hbm, 53, rfl⟩
abbrev main_v52 : Ref sig .tc := ⟨.hbm, 54, rfl⟩
abbrev main_v53 : Ref sig .tc := ⟨.hbm, 55, rfl⟩
abbrev main_v54 : Ref sig .tc := ⟨.hbm, 56, rfl⟩
abbrev main_v55 : Ref sig .tc := ⟨.hbm, 57, rfl⟩
abbrev main_v56 : Ref sig .tc := ⟨.hbm, 58, rfl⟩
abbrev main_v57 : Ref sig .tc := ⟨.hbm, 59, rfl⟩
abbrev main_v58 : Ref sig .tc := ⟨.hbm, 60, rfl⟩
abbrev main_v59 : Ref sig .tc := ⟨.hbm, 61, rfl⟩
abbrev main_v60 : Ref sig .tc := ⟨.hbm, 62, rfl⟩
abbrev main_v61 : Ref sig .tc := ⟨.hbm, 63, rfl⟩
abbrev main_v62 : Ref sig .tc := ⟨.hbm, 64, rfl⟩
abbrev main_v63 : Ref sig .tc := ⟨.hbm, 65, rfl⟩
abbrev main_v64 : Ref sig .tc := ⟨.hbm, 66, rfl⟩
abbrev main_v65 : Ref sig .tc := ⟨.hbm, 67, rfl⟩
abbrev main_v66 : Ref sig .tc := ⟨.hbm, 68, rfl⟩
abbrev main_v67 : Ref sig .tc := ⟨.hbm, 69, rfl⟩
abbrev main_v68 : Ref sig .tc := ⟨.hbm, 70, rfl⟩
abbrev main_v69 : Ref sig .tc := ⟨.hbm, 71, rfl⟩
abbrev main_v70 : Ref sig .tc := ⟨.hbm, 72, rfl⟩
abbrev main_v71 : Ref sig .tc := ⟨.hbm, 73, rfl⟩
abbrev main_v72 : Ref sig .tc := ⟨.hbm, 74, rfl⟩
abbrev main_v73 : Ref sig .tc := ⟨.hbm, 75, rfl⟩
abbrev main_v74 : Ref sig .tc := ⟨.hbm, 76, rfl⟩
abbrev main_v75 : Ref sig .tc := ⟨.hbm, 77, rfl⟩
abbrev main_v76 : Ref sig .tc := ⟨.hbm, 78, rfl⟩
abbrev main_v77 : Ref sig .tc := ⟨.hbm, 79, rfl⟩
abbrev main_v78 : Ref sig .tc := ⟨.hbm, 80, rfl⟩
abbrev main_v79 : Ref sig .tc := ⟨.hbm, 81, rfl⟩
abbrev main_v80 : Ref sig .tc := ⟨.hbm, 82, rfl⟩
abbrev main_v81 : Ref sig .tc := ⟨.hbm, 83, rfl⟩
abbrev main_v82 : Ref sig .tc := ⟨.hbm, 84, rfl⟩
abbrev main_v83 : Ref sig .tc := ⟨.hbm, 85, rfl⟩
abbrev main_v84 : Ref sig .tc := ⟨.hbm, 86, rfl⟩
abbrev main_v85 : Ref sig .tc := ⟨.hbm, 87, rfl⟩
abbrev main_v86 : Ref sig .tc := ⟨.hbm, 88, rfl⟩
abbrev main_v87 : Ref sig .tc := ⟨.hbm, 89, rfl⟩
abbrev main_v88 : Ref sig .tc := ⟨.hbm, 90, rfl⟩
abbrev main_v89 : Ref sig .tc := ⟨.hbm, 91, rfl⟩
abbrev main_v90 : Ref sig .tc := ⟨.hbm, 92, rfl⟩
abbrev main_v91 : Ref sig .tc := ⟨.hbm, 93, rfl⟩
abbrev main_v92 : Ref sig .tc := ⟨.hbm, 94, rfl⟩
abbrev main_v93 : Ref sig .tc := ⟨.hbm, 95, rfl⟩
abbrev main_v94 : Ref sig .tc := ⟨.hbm, 96, rfl⟩
abbrev main_v95 : Ref sig .tc := ⟨.hbm, 97, rfl⟩
abbrev main_v96 : Ref sig .tc := ⟨.hbm, 98, rfl⟩
abbrev main_v97 : Ref sig .tc := ⟨.hbm, 99, rfl⟩
abbrev main_v98 : Ref sig .tc := ⟨.hbm, 100, rfl⟩
abbrev main_v99 : Ref sig .tc := ⟨.hbm, 101, rfl⟩
abbrev main_v100 : Ref sig .tc := ⟨.hbm, 102, rfl⟩
abbrev main_v101 : Ref sig .tc := ⟨.hbm, 103, rfl⟩
abbrev main_v102 : Ref sig .tc := ⟨.hbm, 104, rfl⟩
abbrev main_v103 : Ref sig .tc := ⟨.hbm, 105, rfl⟩
abbrev main_v104 : Ref sig .tc := ⟨.hbm, 106, rfl⟩
abbrev main_v105 : Ref sig .tc := ⟨.hbm, 107, rfl⟩
abbrev main_v106 : Ref sig .tc := ⟨.hbm, 108, rfl⟩
abbrev main_v107 : Ref sig .tc := ⟨.hbm, 109, rfl⟩
abbrev main_v108 : Ref sig .tc := ⟨.hbm, 110, rfl⟩
abbrev main_v109 : Ref sig .tc := ⟨.hbm, 111, rfl⟩
abbrev main_v110 : Ref sig .tc := ⟨.hbm, 112, rfl⟩
abbrev main_v111 : Ref sig .tc := ⟨.hbm, 113, rfl⟩
abbrev main_v112 : Ref sig .tc := ⟨.hbm, 114, rfl⟩
abbrev main_v113 : Ref sig .tc := ⟨.hbm, 115, rfl⟩
abbrev main_v114 : Ref sig .tc := ⟨.hbm, 116, rfl⟩
abbrev main_v115 : Ref sig .tc := ⟨.hbm, 117, rfl⟩
abbrev main_v116 : Ref sig .tc := ⟨.hbm, 118, rfl⟩
abbrev main_v117 : Ref sig .tc := ⟨.hbm, 119, rfl⟩
abbrev main_v118 : Ref sig .tc := ⟨.hbm, 120, rfl⟩
abbrev main_v119 : Ref sig .tc := ⟨.hbm, 121, rfl⟩
abbrev main_v120 : Ref sig .tc := ⟨.hbm, 122, rfl⟩
abbrev main_v121 : Ref sig .tc := ⟨.hbm, 123, rfl⟩
abbrev main_v122 : Ref sig .tc := ⟨.hbm, 124, rfl⟩
abbrev main_v123 : Ref sig .tc := ⟨.hbm, 125, rfl⟩
abbrev main_v124 : Ref sig .tc := ⟨.hbm, 126, rfl⟩
abbrev main_v125 : Ref sig .tc := ⟨.hbm, 127, rfl⟩
abbrev main_v126 : Ref sig .tc := ⟨.hbm, 128, rfl⟩
abbrev main_v127 : Ref sig .tc := ⟨.hbm, 129, rfl⟩
abbrev main_v128 : Ref sig .tc := ⟨.hbm, 130, rfl⟩
abbrev main_v129 : Ref sig .tc := ⟨.hbm, 131, rfl⟩
abbrev main_v130 : Ref sig .tc := ⟨.hbm, 132, rfl⟩
abbrev main_v131 : Ref sig .tc := ⟨.hbm, 133, rfl⟩
abbrev main_v132 : Ref sig .tc := ⟨.hbm, 134, rfl⟩
abbrev main_v133 : Ref sig .tc := ⟨.hbm, 135, rfl⟩
abbrev main_v134 : Ref sig .tc := ⟨.hbm, 136, rfl⟩
abbrev main_v135 : Ref sig .tc := ⟨.hbm, 137, rfl⟩
abbrev main_v136 : Ref sig .tc := ⟨.hbm, 138, rfl⟩
abbrev main_v137 : Ref sig .tc := ⟨.hbm, 139, rfl⟩
abbrev main_v138 : Ref sig .tc := ⟨.hbm, 140, rfl⟩
abbrev main_v139 : Ref sig .tc := ⟨.hbm, 141, rfl⟩
abbrev main_v140 : Ref sig .tc := ⟨.hbm, 142, rfl⟩
abbrev main_v141 : Ref sig .tc := ⟨.hbm, 143, rfl⟩
abbrev main_v142 : Ref sig .tc := ⟨.hbm, 144, rfl⟩
abbrev main_v143 : Ref sig .tc := ⟨.hbm, 145, rfl⟩
abbrev main_v144 : Ref sig .tc := ⟨.hbm, 146, rfl⟩
abbrev main_v145 : Ref sig .tc := ⟨.hbm, 147, rfl⟩
abbrev main_v146 : Ref sig .tc := ⟨.hbm, 148, rfl⟩
abbrev main_v147 : Ref sig .tc := ⟨.hbm, 149, rfl⟩
abbrev main_v148 : Ref sig .tc := ⟨.hbm, 150, rfl⟩
abbrev main_v149 : Ref sig .tc := ⟨.hbm, 151, rfl⟩
abbrev main_v150 : Ref sig .tc := ⟨.hbm, 152, rfl⟩
abbrev main_v151 : Ref sig .tc := ⟨.hbm, 153, rfl⟩
abbrev main_v152 : Ref sig .tc := ⟨.hbm, 154, rfl⟩
abbrev main_v153 : Ref sig .tc := ⟨.hbm, 155, rfl⟩
abbrev main_v154 : Ref sig .tc := ⟨.hbm, 156, rfl⟩
abbrev main_v155 : Ref sig .tc := ⟨.hbm, 157, rfl⟩
abbrev main_v156 : Ref sig .tc := ⟨.hbm, 158, rfl⟩
abbrev main_v157 : Ref sig .tc := ⟨.hbm, 159, rfl⟩
abbrev main_v158 : Ref sig .tc := ⟨.hbm, 160, rfl⟩
abbrev main_v159 : Ref sig .tc := ⟨.hbm, 161, rfl⟩
abbrev main_v160 : Ref sig .tc := ⟨.hbm, 162, rfl⟩
abbrev main_v161 : Ref sig .tc := ⟨.hbm, 163, rfl⟩
abbrev main_v162 : Ref sig .tc := ⟨.hbm, 164, rfl⟩
abbrev main_v163 : Ref sig .tc := ⟨.hbm, 165, rfl⟩
abbrev main_v164 : Ref sig .tc := ⟨.hbm, 166, rfl⟩
abbrev main_v165 : Ref sig .tc := ⟨.hbm, 167, rfl⟩
abbrev main_v166 : Ref sig .tc := ⟨.hbm, 168, rfl⟩
abbrev main_v167 : Ref sig .tc := ⟨.hbm, 169, rfl⟩
abbrev main_v168 : Ref sig .tc := ⟨.hbm, 170, rfl⟩
abbrev main_cst : Ref sig .tc := ⟨.hbm, 171, rfl⟩
abbrev main_v169 : Ref sig .tc := ⟨.hbm, 172, rfl⟩
abbrev main_v170 : Ref sig .tc := ⟨.hbm, 173, rfl⟩
abbrev main_v171 : Ref sig .tc := ⟨.hbm, 174, rfl⟩
abbrev main_v172 : Ref sig .tc := ⟨.hbm, 175, rfl⟩
abbrev main_cst_0 : Ref sig .tc := ⟨.hbm, 176, rfl⟩
abbrev main_v173 : Ref sig .tc := ⟨.hbm, 177, rfl⟩
abbrev main_cst_1 : Ref sig .tc := ⟨.hbm, 178, rfl⟩
abbrev main_v174 : Ref sig .tc := ⟨.hbm, 179, rfl⟩
abbrev main_v175 : Ref sig .tc := ⟨.hbm, 180, rfl⟩
abbrev main_cst_2 : Ref sig .tc := ⟨.hbm, 181, rfl⟩
abbrev main_v176 : Ref sig .tc := ⟨.hbm, 182, rfl⟩
abbrev main_v177 : Ref sig .tc := ⟨.hbm, 183, rfl⟩
abbrev main_cst_3 : Ref sig .tc := ⟨.hbm, 184, rfl⟩
abbrev main_call0_v0 : Ref sig .tc := ⟨.hbm, 185, rfl⟩
abbrev main_v178 : Ref sig .tc := ⟨.hbm, 186, rfl⟩
abbrev main_v179 : Ref sig .tc := ⟨.hbm, 187, rfl⟩
abbrev main_v180 : Ref sig .tc := ⟨.hbm, 188, rfl⟩
abbrev main_v181 : Ref sig .tc := ⟨.hbm, 189, rfl⟩
abbrev main_v182 : Ref sig .tc := ⟨.hbm, 190, rfl⟩
abbrev main_cst_4 : Ref sig .tc := ⟨.hbm, 191, rfl⟩
abbrev main_cst_5 : Ref sig .tc := ⟨.hbm, 192, rfl⟩
abbrev main_call2_v0 : Ref sig .tc := ⟨.hbm, 193, rfl⟩
abbrev main_call2_v1 : Ref sig .tc := ⟨.hbm, 194, rfl⟩
abbrev main_call2_v2 : Ref sig .tc := ⟨.hbm, 195, rfl⟩
abbrev main_call2_v3 : Ref sig .tc := ⟨.hbm, 196, rfl⟩
abbrev main_call2_v4 : Ref sig .tc := ⟨.hbm, 197, rfl⟩
abbrev main_v183 : Ref sig .tc := ⟨.hbm, 198, rfl⟩
abbrev main_v184 : Ref sig .tc := ⟨.hbm, 199, rfl⟩
abbrev main_v185 : Ref sig .tc := ⟨.hbm, 200, rfl⟩
abbrev main_c : Ref sig .tc := ⟨.hbm, 201, rfl⟩
abbrev main_v186 : Ref sig .tc := ⟨.hbm, 202, rfl⟩
abbrev main_v187 : Ref sig .tc := ⟨.hbm, 203, rfl⟩
abbrev main_v188 : Ref sig .tc := ⟨.hbm, 204, rfl⟩
abbrev main_v189 : Ref sig .tc := ⟨.hbm, 205, rfl⟩
abbrev main_v190 : Ref sig .tc := ⟨.hbm, 206, rfl⟩
abbrev main_v191 : Ref sig .tc := ⟨.hbm, 207, rfl⟩
abbrev main_v192 : Ref sig .tc := ⟨.hbm, 208, rfl⟩
abbrev main_c_6 : Ref sig .tc := ⟨.hbm, 209, rfl⟩
abbrev main_v193 : Ref sig .tc := ⟨.hbm, 210, rfl⟩
abbrev main_v194 : Ref sig .tc := ⟨.hbm, 211, rfl⟩
abbrev main_v195 : Ref sig .tc := ⟨.hbm, 212, rfl⟩
abbrev main_v196 : Ref sig .tc := ⟨.hbm, 213, rfl⟩

abbrev nD : Nat := 1
abbrev τ : Topo := Topo.v7x

variable {F : FTy → Type} [FloatOps F]
-- ==== Proof.Body.lean ====
/- The kernel's body as nested loops: the same statements as the printed straight line, written over loop indices, and the
   proof that the printed body is their sequence. -/
module

public import proofs.«01_k».proof.KernelIdeal
public import Idealize.ShloMosaic.Lib.Tactic

@[expose] public section

set_option maxRecDepth 16384

noncomputable section

namespace Cert.KernelIdeal.Body

open Idealize.ShloMosaic Idealize.ShloMosaic.TcCoe Idealize.SL.Sem Idealize.ShloMosaic.Tactic
open Cert.KernelIdeal
open Shapes1.Facts₀ Shapes2.Facts₀

variable {F : FTy → Type} [FloatOps F] [Facts]

/-- The programs of the body. -/
abbrev PG (F : FTy → Type) [FloatOps F] [Facts] (α : Type) : Type 1 := Prog (TpuEff nD τ sig (Elt F) Λ₀ .tc) α

/-- Run `f` at each index below `n`, in order. -/
def each : (n : Nat) → (Fin n → PG F PUnit) → PG F PUnit
  | 0, _ => pure ⟨⟩
  | n + 1, f => f 0 >>= fun _ => each n fun i => f i.succ

/-- Run `f` at each index below `n`, in order, and keep the results. -/
def gather {α : Type} : (n : Nat) → (Fin n → PG F α) → PG F (Fin n → α)
  | 0, _ => pure Fin.elim0
  | n + 1, f => f 0 >>= fun x => gather n (fun i => f i.succ) >>= fun xs => pure (Fin.cons x xs)

/-- One butterfly stage at distance `h` over eight vectors. -/
def stage {s : Shape} (h : Nat) (v : Fin 8 → FVec F s .f32) (i : Fin 8) : FVec F s .f32 :=
  bif Nat.beq (Nat.land i.val h) 0 then addf (v i) (v (Fin.ofNat 8 (i.val + h))) else subf (v (Fin.ofNat 8 (i.val - h))) (v i)

/-- The three-stage butterfly over eight vectors. -/
def bfly {s : Shape} (v : Fin 8 → FVec F s .f32) : Fin 8 → FVec F s .f32 := stage 4 (stage 2 (stage 1 v))

theorem inbS (m lo : Fin 8) : ∀ a, (![0, (m.val * 8 + lo.val) * 512] : Fin 2 → Nat) a + S16x512.size a ≤ S16x32768.size a := by
  intro a; fin_cases a <;> simp <;> omega
theorem inbW (hf : Fin 2) (m lo : Fin 8) : ∀ a, (![hf.val * 16, (m.val * 8 + lo.val) * 512] : Fin 2 → Nat) a + S16x512.size a ≤ S32x32768.size a := by
  intro a; fin_cases a <;> simp <;> omega
theorem inbY (m lo : Fin 8) (dp : Fin 4) : ∀ a, (![m.val, lo.val, dp.val, 0, 0] : Fin 5 → Nat) a + S1x1x1x32x128.size a ≤ S8x8x4x32x128.size a := by
  intro a; fin_cases a <;> simp <;> omega
theorem inbY8 (m lo : Fin 8) (dp rb : Fin 4) : ∀ a, (![m.val, lo.val, dp.val, rb.val * 8, 0] : Fin 5 → Nat) a + S1x1x1x8x128.size a ≤ S8x8x4x32x128.size a := by
  intro a; fin_cases a <;> simp <;> omega
theorem inbZ (rb : Fin 4) (lo : Fin 8) (dg : Fin 2) : ∀ a, (![rb.val, lo.val * 4 + dg.val * 2, 0] : Fin 3 → Nat) a + S1x2x128.size a ≤ S4x32x128.size a := by
  intro a; fin_cases a <;> simp <;> omega
theorem inbZ1 (rb : Fin 4) : ∀ a, (![rb.val, 0, 0] : Fin 3 → Nat) a + S1x32x128.size a ≤ S4x32x128.size a := by
  intro a; fin_cases a <;> simp <;> omega
theorem inbC (m lo : Fin 8) (dg : Fin 2) : ∀ a, (![0, (m.val * 8 + lo.val) * 256 + dg.val * 128] : Fin 2 → Nat) a + S32x128.size a ≤ S32x16384.size a := by
  intro a; fin_cases a <;> simp <;> omega
theorem inbO (rb : Fin 4) (v : Fin 2) : ∀ a, (![rb.val * 8, v.val * 128] : Fin 2 → Nat) a + S8x128.size a ≤ S32x256.size a := by
  intro a; fin_cases a <;> simp <;> omega
theorem slX (lo : Fin 8) : S256x512.Slices ![lo.val * 32, 0] S32x512 := by
  refine ⟨rfl, fun a => ?_⟩; fin_cases a <;> simp <;> omega
theorem slP (dp : Fin 4) : S32x512.Slices ![0, dp.val * 128] S32x128 := by
  refine ⟨rfl, fun a => ?_⟩; fin_cases a <;> simp <;> omega
theorem slH (hf : Fin 2) : S128x128.Slices ![hf.val * 64, 0] S64x128 := by
  refine ⟨rfl, fun a => ?_⟩; fin_cases a <;> simp <;> omega
theorem slS (rb : Fin 4) : S8x128.Slices ![rb.val * 2, 0] S2x128 := by
  refine ⟨rfl, fun a => ?_⟩; fin_cases a <;> simp <;> omega
theorem slM (rb : Fin 4) (hf : Fin 2) : S8x128.Slices ![rb.val * 2 + hf.val, 0] S1x128 := by
  refine ⟨rfl, fun a => ?_⟩; fin_cases a <;> simp <;> omega
theorem slT (m : Fin 8) (dg : Fin 2) : S128x128.Slices ![(m.val * 2 + dg.val) * 8, 0] S8x128 := by
  refine ⟨rfl, fun a => ?_⟩; fin_cases a <;> simp <;> omega
theorem packC (m lo : Fin 8) (dg : Fin 2) : (Rect.unit (s := S32x16384) ![0, (m.val * 8 + lo.val) * 256 + dg.val * 128] S32x128.size (inbC m lo dg)).PackedRows (EltTy.packing .i8) := by
  refine (Rect.packedRows_iff_at _ _).2 (Or.inr ⟨by decide, rfl, Or.inl ⟨?_, ?_⟩⟩)
  · exact Nat.dvd_zero _
  · exact (by decide : (4 : Nat) ∣ 32)

/-- The place of a half of a chunk: `2·dg + p`. -/
def dpOf (dg p : Fin 2) : Fin 4 := ⟨dg.val * 2 + p.val, by omega⟩

section
variable (arg1 : Memref sig .tc .vmem S32x32768 .bf16) (harg1 : arg1.IsWhole) (arg2 : Memref sig .tc .vmem S16x32768 .bf16) (harg2 : arg2.IsWhole) (arg3 : Memref sig .tc .vmem S512x512 .bf16) (harg3 : arg3.IsWhole) (arg4 : Memref sig .tc .vmem S32x16384 .i8) (harg4 : arg4.IsWhole) (arg5 : Memref sig .tc .vmem S32x256 .f32) (harg5 : arg5.IsWhole) (arg6 : Memref sig .tc .vmem S8x8x4x32x128 .f32) (harg6 : arg6.IsWhole) (arg7 : Memref sig .tc .vmem S4x32x128 .f32) (harg7 : arg7.IsWhole)

/-- One chunk of the block, both row halves, times the signs. -/
def piece (m lo : Fin 8) : PG F (FVec F S16x512 .bf16 × FVec F S16x512 .bf16) := do
  let s ← Prog.lift (.load arg2 (Rect.unit (s := S16x32768) ![0, (m.val * 8 + lo.val) * 512] S16x512.size (inbS m lo)).toLoadRect (View.loadsAt_vmem h_S16x512))
  let s : FVec F S16x512 .bf16 := shapeCast S16x512 s shapeCasts_S16x512_S16x512
  let a ← Prog.lift (.load arg1 (Rect.unit (s := S32x32768) ![(0 : Fin 2).val * 16, (m.val * 8 + lo.val) * 512] S16x512.size (inbW 0 m lo)).toLoadRect (View.loadsAt_vmem h_S16x512))
  let b ← Prog.lift (.load arg1 (Rect.unit (s := S32x32768) ![(1 : Fin 2).val * 16, (m.val * 8 + lo.val) * 512] S16x512.size (inbW 1 m lo)).toLoadRect (View.loadsAt_vmem h_S16x512))
  pure (mulf (shapeCast S16x512 a shapeCasts_S16x512_S16x512) s, mulf (shapeCast S16x512 b shapeCasts_S16x512_S16x512) s)

/-- Sixteen half-chunks stacked. -/
def stack16 (g : Fin 8 → FVec F S16x512 .bf16 × FVec F S16x512 .bf16) : FVec F S256x512 .bf16 :=
  concatenate S256x512 0 [⟨S16x512, (g 0).1⟩, ⟨S16x512, (g 0).2⟩, ⟨S16x512, (g 1).1⟩, ⟨S16x512, (g 1).2⟩, ⟨S16x512, (g 2).1⟩, ⟨S16x512, (g 2).2⟩,
    ⟨S16x512, (g 3).1⟩, ⟨S16x512, (g 3).2⟩, ⟨S16x512, (g 4).1⟩, ⟨S16x512, (g 4).2⟩, ⟨S16x512, (g 5).1⟩, ⟨S16x512, (g 5).2⟩,
    ⟨S16x512, (g 6).1⟩, ⟨S16x512, (g 6).2⟩, ⟨S16x512, (g 7).1⟩, ⟨S16x512, (g 7).2⟩] concatenates_S16x512_S16x512_S16x512_S16x512_S16x512_S16x512_S16x512_S16x512_S16x512_S16x512_S16x512_S16x512_S16x512_S16x512_S16x512_S16x512_S256x512_d0

/-- The product of the stacked chunks with the Hadamard matrix. -/
def prodX (x : FVec F S256x512 .bf16) (h : Vec F S512x512 .bf16) : FVec F S256x512 .f32 :=
  matmul dot_S256x512_S512x512_S256x512_1_0_0_1_n_n none x (shapeCast S512x512 h shapeCasts_S512x512_S512x512) (constant S256x512 .f32 0x00000000#32)

/-- Rows `lo·32 …` of the product. -/
def rowsX (y : FVec F S256x512 .f32) (lo : Fin 8) : FVec F S32x512 .f32 :=
  extractStridedSlice S32x512 ![lo.val * 32, 0] y (slX lo)

/-- Store a block of `y`. -/
def putY (m lo : Fin 8) (dp : Fin 4) (v : FVec F S32x128 .f32) : PG F PUnit := do
  let _ ← Prog.lift (.load arg6 (Rect.unit (s := S8x8x4x32x128) ![m.val, lo.val, dp.val, 0, 0] S1x1x1x32x128.size (inbY m lo dp)).toLoadRect (View.loadsAt_vmem h_S1x1x1x32x128))
  Prog.lift (.store arg6 (Rect.unit (s := S8x8x4x32x128) ![m.val, lo.val, dp.val, 0, 0] S1x1x1x32x128.size (inbY m lo dp))
    (shapeCast S1x1x1x32x128 v shapeCasts_S32x128_S1x1x1x32x128) Finset.univ (View.stores_vmem_bits_univ h_S1x1x1x32x128 rfl) (.inl rfl))

/-- Phase one at `m`. -/
def unit1 (m : Fin 8) : PG F PUnit := do
  let g ← gather 8 (piece arg1 arg2 m)
  let h ← Prog.lift (.load arg3 (Rect.unit (s := S512x512) ![0, 0] S512x512.size inb_S512x512_S512x512_0_0).toLoadRect (View.loadsAt_vmem h_S512x512))
  let parts := bfly (rowsX (prodX (stack16 g) h))
  each 8 fun lo => each 4 fun dp =>
    putY arg6 m lo dp (extractStridedSlice S32x128 ![0, dp.val * 128] (parts lo) (slP dp))

/-- The groups' maxima of eight rows, as the kernel lays them out: absolute values, the two parities, transposed, the 64 lanes. -/
def maxT (g : Fin 2 → Fin 2 → Fin 8 → FVec F S8x128 .f32) : FVec F S128x128 .f32 :=
  let mx (m : Fin 8) (dg : Fin 2) : FVec F S8x128 .f32 := maximumf (absf (g dg 0 m)) (absf (g dg 1 m))
  transpose S128x128 [1, 0] (concatenate S128x128 0 [⟨S8x128, mx 0 0⟩, ⟨S8x128, mx 0 1⟩, ⟨S8x128, mx 1 0⟩, ⟨S8x128, mx 1 1⟩,
    ⟨S8x128, mx 2 0⟩, ⟨S8x128, mx 2 1⟩, ⟨S8x128, mx 3 0⟩, ⟨S8x128, mx 3 1⟩, ⟨S8x128, mx 4 0⟩, ⟨S8x128, mx 4 1⟩, ⟨S8x128, mx 5 0⟩, ⟨S8x128, mx 5 1⟩,
    ⟨S8x128, mx 6 0⟩, ⟨S8x128, mx 6 1⟩, ⟨S8x128, mx 7 0⟩, ⟨S8x128, mx 7 1⟩]
    concatenates_S8x128_S8x128_S8x128_S8x128_S8x128_S8x128_S8x128_S8x128_S8x128_S8x128_S8x128_S8x128_S8x128_S8x128_S8x128_S8x128_S128x128_d0)
    transposes_S128x128_p1_0_S128x128

/-- One row of maxima. -/
def maxH (mt : FVec F S128x128 .f32) (hf : Fin 2) : FVec F S1x128 .f32 :=
  shapeCast S1x128 (multiReduction .maximumf [0] S128 (extractStridedSlice S64x128 ![hf.val * 64, 0] mt (slH hf)) 0xFF800000#32 reduces_S64x128_S128 (.inl rfl) rfl)
    shapeCasts_S128_S1x128

/-- The eight rows of maxima, stacked. -/
def stackM (t : Fin 4 → Fin 2 → FVec F S1x128 .f32) : FVec F S8x128 .f32 :=
  concatenate S8x128 0 [⟨S1x128, t 0 0⟩, ⟨S1x128, t 0 1⟩, ⟨S1x128, t 1 0⟩, ⟨S1x128, t 1 1⟩, ⟨S1x128, t 2 0⟩, ⟨S1x128, t 2 1⟩, ⟨S1x128, t 3 0⟩, ⟨S1x128, t 3 1⟩]
    concatenates_S1x128_S1x128_S1x128_S1x128_S1x128_S1x128_S1x128_S1x128_S8x128_d0

/-- The scales of the stacked maxima. -/
def scaleOf (tmax : FVec F S8x128 .f32) : FVec F S8x128 .f32 :=
  let a : FVec F S8x128 .f32 := mulf tmax (broadcast S8x128 (Scalar.ofBits .f32 0x3BB504F3#32))
  select (cmpf .oeq a (broadcast S8x128 (Scalar.ofBits .f32 0x00000000#32))) (broadcast S8x128 (Scalar.ofBits .f32 0x3F800000#32))
    (divf a (broadcast S8x128 (Scalar.ofBits .f32 0x40E00000#32)))

/-- The multipliers of the scales. -/
def multOf (sc : FVec F S8x128 .f32) : FVec F S8x128 .f32 := divf (broadcast S8x128 (Scalar.ofBits .f32 0x3BB504F3#32)) sc

/-- A row of multipliers spread over 64 rows. -/
def spread (mult : FVec F S8x128 .f32) (rb : Fin 4) (hf : Fin 2) : FVec F S64x128 .f32 :=
  broadcastTo S64x128 (shapeCast S1x128 (extractStridedSlice S1x128 ![rb.val * 2 + hf.val, 0] mult (slM rb hf)) shapeCasts_S1x128_S1x128) broadcasts_S1x128_S64x128

/-- The multipliers of eight rows, transposed back. -/
def multT (mult : FVec F S8x128 .f32) (rb : Fin 4) : FVec F S128x128 .f32 :=
  transpose S128x128 [1, 0] (concatenate S128x128 0 [⟨S64x128, spread mult rb 0⟩, ⟨S64x128, spread mult rb 1⟩] concatenates_S64x128_S64x128_S128x128_d0)
    transposes_S128x128_p1_0_S128x128

/-- The multipliers of one 128-lane block of 32 rows. -/
def mulsOf (mt : Fin 4 → FVec F S128x128 .f32) (m : Fin 8) (dg : Fin 2) : FVec F S32x128 .f32 :=
  let t (rb : Fin 4) : FVec F S8x128 .f32 := extractStridedSlice S8x128 ![(m.val * 2 + dg.val) * 8, 0] (mt rb) (slT m dg)
  concatenate S32x128 0 [⟨S8x128, t 0⟩, ⟨S8x128, t 1⟩, ⟨S8x128, t 2⟩, ⟨S8x128, t 3⟩] concatenates_S8x128_S8x128_S8x128_S8x128_S32x128_d0

/-- The biased codes of one block, two rows to a word. -/
def wordsOf (y mul : FVec F S32x128 .f32) : IVec S16x128 32 :=
  bitcast S16x128 32 (trunci 16 (fptosi 32 (addf (roundeven (minimumf (broadcast S32x128 (Scalar.ofBits .f32 0x40E00000#32))
    (maximumf (broadcast S32x128 (Scalar.ofBits .f32 0xC0E00000#32)) (mulf y mul)))) (broadcast S32x128 (Scalar.ofBits .f32 0x41000000#32)) : FVec F S32x128 .f32)) natLt_16_32)
    bitcasts_S32x128_w16_S16x128_w32

/-- The packed codes of a pair of blocks. -/
def packOf (u0 u1 : IVec S16x128 32) : IVec S32x128 8 :=
  bitcast S32x128 8 (xori (bitcast S8x128 32 (trunci 8 (bitcast S32x128 16 (addi u0 (shli u1 (broadcast S16x128 4#32))) bitcasts_S16x128_w32_S32x128_w16) natLt_8_16)
    bitcasts_S32x128_w8_S8x128_w32) (broadcast S8x128 2290649224#32)) bitcasts_S8x128_w32_S32x128_w8

/-- Load eight rows of a block of `y`. -/
def getY8 (m lo : Fin 8) (dp rb : Fin 4) : PG F (FVec F S8x128 .f32) := do
  let v ← Prog.lift (.load arg6 (Rect.unit (s := S8x8x4x32x128) ![m.val, lo.val, dp.val, rb.val * 8, 0] S1x1x1x8x128.size (inbY8 m lo dp rb)).toLoadRect (View.loadsAt_vmem h_S1x1x1x8x128))
  pure (shapeCast S8x128 v shapeCasts_S1x1x1x8x128_S8x128)

/-- Store eight rows of a block of `y`. -/
def putY8 (m lo : Fin 8) (dp rb : Fin 4) (v : FVec F S8x128 .f32) : PG F PUnit := do
  let _ ← Prog.lift (.load arg6 (Rect.unit (s := S8x8x4x32x128) ![m.val, lo.val, dp.val, rb.val * 8, 0] S1x1x1x8x128.size (inbY8 m lo dp rb)).toLoadRect (View.loadsAt_vmem h_S1x1x1x8x128))
  Prog.lift (.store arg6 (Rect.unit (s := S8x8x4x32x128) ![m.val, lo.val, dp.val, rb.val * 8, 0] S1x1x1x8x128.size (inbY8 m lo dp rb))
    (shapeCast S1x1x1x8x128 v shapeCasts_S8x128_S1x1x1x8x128) Finset.univ (View.stores_vmem_bits_univ h_S1x1x1x8x128 rfl) (.inl rfl))

/-- The last butterflies of one block of eight rows, stored back. -/
def bfBlock (lo : Fin 8) (dp rb : Fin 4) : PG F (Fin 8 → FVec F S8x128 .f32) := do
  let v ← gather 8 fun m => getY8 arg6 m lo dp rb
  each 8 fun m => putY8 arg6 m lo dp rb (bfly v m)
  pure (bfly v)

/-- The rows of maxima of one block of eight rows. -/
def rbBlock (lo : Fin 8) (rb : Fin 4) : PG F (Fin 2 → FVec F S1x128 .f32) := do
  let g ← gather 2 fun dg => gather 2 fun p => bfBlock arg6 lo (dpOf dg p) rb
  pure (maxH (maxT g))

/-- Store two rows of scales. -/
def putZ (rb : Fin 4) (lo : Fin 8) (dg : Fin 2) (sc : FVec F S8x128 .f32) : PG F PUnit := do
  let _ ← Prog.lift (.load arg7 (Rect.unit (s := S4x32x128) ![rb.val, lo.val * 4 + dg.val * 2, 0] S1x2x128.size (inbZ rb lo dg)).toLoadRect (View.loadsAt_vmem h_S1x2x128))
  Prog.lift (.store arg7 (Rect.unit (s := S4x32x128) ![rb.val, lo.val * 4 + dg.val * 2, 0] S1x2x128.size (inbZ rb lo dg))
    (shapeCast S1x2x128 (extractStridedSlice S2x128 ![rb.val * 2, 0] sc (slS rb)) shapeCasts_S2x128_S1x2x128) Finset.univ (View.stores_vmem_bits_univ h_S1x2x128 rfl) (.inl rfl))

/-- Load a block of `y`. -/
def getY (m lo : Fin 8) (dp : Fin 4) : PG F (FVec F S32x128 .f32) := do
  let v ← Prog.lift (.load arg6 (Rect.unit (s := S8x8x4x32x128) ![m.val, lo.val, dp.val, 0, 0] S1x1x1x32x128.size (inbY m lo dp)).toLoadRect (View.loadsAt_vmem h_S1x1x1x32x128))
  pure (shapeCast S32x128 v shapeCasts_S1x1x1x32x128_S32x128)

/-- Store a block of codes. -/
def putC (m lo : Fin 8) (dg : Fin 2) (v : IVec S32x128 8) : PG F PUnit := do
  let _ ← Prog.lift (.load arg4 (Rect.unit (s := S32x16384) ![0, (m.val * 8 + lo.val) * 256 + dg.val * 128] S32x128.size (inbC m lo dg)).toLoadRect (View.loadsAt_vmem h_S32x128))
  Prog.lift (.store arg4 (Rect.unit (s := S32x16384) ![0, (m.val * 8 + lo.val) * 256 + dg.val * 128] S32x128.size (inbC m lo dg)) v Finset.univ
    (View.stores_vmem h_S32x128 (harg4.storeExact_slice rfl _ (packC m lo dg)) (fun _ => rfl)) (.inl rfl))

/-- The codes of one block. -/
def codeBlock (lo m : Fin 8) (dg : Fin 2) (mul : FVec F S32x128 .f32) : PG F PUnit := do
  let y0 ← getY arg6 m lo (dpOf dg 0)
  let y1 ← getY arg6 m lo (dpOf dg 1)
  putC arg4 harg4 m lo dg (packOf (wordsOf y0 mul) (wordsOf y1 mul))

/-- Phase two at `lo`. -/
def unit2 (lo : Fin 8) : PG F PUnit := do
  let t ← gather 4 (rbBlock arg6 lo)
  let sc := scaleOf (stackM t)
  each 4 fun rb => each 2 fun dg => putZ arg7 rb lo dg sc
  let mt := multT (multOf sc)
  each 8 fun m => each 2 fun dg => codeBlock arg4 harg4 arg6 lo m dg (mulsOf mt m dg)

/-- The scales' rows of one block, four copies side by side, transposed. -/
def zT (z : Vec F S1x32x128 .f32) : FVec F S128x128 .f32 :=
  let v : FVec F S32x128 .f32 := shapeCast S32x128 z shapeCasts_S1x32x128_S32x128
  transpose S128x128 [1, 0] (concatenate S128x128 0 [⟨S32x128, v⟩, ⟨S32x128, v⟩, ⟨S32x128, v⟩, ⟨S32x128, v⟩] concatenates_S32x128_S32x128_S32x128_S32x128_S128x128_d0)
    transposes_S128x128_p1_0_S128x128

/-- The lane number. -/
def lane : IVec S8x128 32 := iota .tc S8x128 32 [1] iota_S8x128_d1_w32

/-- One of the sixteen eight-row pieces. -/
def zPiece (zt : FVec F S128x128 .f32) (v : Fin 2) (k : Fin 8) : FVec F S8x128 .f32 :=
  extractStridedSlice S8x128 ![((Fin.ofNat 8 (v.val * 4 + k.val / 2)).val * 2 + (Fin.ofNat 2 k.val).val) * 8, 0] zt (slT (Fin.ofNat 8 (v.val * 4 + k.val / 2)) (Fin.ofNat 2 k.val))

/-- Take piece `k` on its lanes. -/
def pick (zt : FVec F S128x128 .f32) (v : Fin 2) (k : Fin 8) (acc : FVec F S8x128 .f32) : FVec F S8x128 .f32 :=
  select (andi (cmpi .eq (shrsi lane (broadcast S8x128 5#32)) (broadcast S8x128 (BitVec.ofNat 32 (k.val / 2))))
    (cmpi .eq (andi (shrsi lane (broadcast S8x128 1#32)) (broadcast S8x128 1#32)) (broadcast S8x128 (BitVec.ofNat 32 (k.val % 2)))))
    (zPiece zt v k) acc

/-- The block of scales of half `v`. -/
def scBlock (zt : FVec F S128x128 .f32) (v : Fin 2) : FVec F S8x128 .f32 :=
  pick zt v 7 (pick zt v 6 (pick zt v 5 (pick zt v 4 (pick zt v 3 (pick zt v 2 (pick zt v 1 (zPiece zt v 0)))))))

/-- Store a block of scales. -/
def putO (rb : Fin 4) (v : Fin 2) (w : FVec F S8x128 .f32) : PG F PUnit := do
  let _ ← Prog.lift (.load arg5 (Rect.unit (s := S32x256) ![rb.val * 8, v.val * 128] S8x128.size (inbO rb v)).toLoadRect (View.loadsAt_vmem h_S8x128))
  Prog.lift (.store arg5 (Rect.unit (s := S32x256) ![rb.val * 8, v.val * 128] S8x128.size (inbO rb v)) w Finset.univ (View.stores_vmem_bits_univ h_S8x128 rfl) (.inl rfl))

/-- Phase three at `rb`. -/
def unit3 (rb : Fin 4) : PG F PUnit := do
  let z ← Prog.lift (.load arg7 (Rect.unit (s := S4x32x128) ![rb.val, 0, 0] S1x32x128.size (inbZ1 rb)).toLoadRect (View.loadsAt_vmem h_S1x32x128))
  each 2 fun v => putO arg5 rb v (scBlock (zT z) v)

/-- The whole body, as loops. -/
def body : PG F PUnit := do
  each 8 fun m => unit1 arg1 arg2 arg3 arg6 m
  each 8 fun lo => unit2 arg4 harg4 arg6 arg7 lo
  each 4 fun rb => unit3 arg5 arg7 rb

theorem body_eq (i : grid0.Coords) :
    cc0_wht_int4 (F := F) i arg1 harg1 arg2 harg2 arg3 harg3 arg4 harg4 arg5 harg5 arg6 harg6 arg7 harg7
      = body arg1 arg2 arg3 arg4 harg4 arg5 arg6 arg7 := by
  sl_kernel_rfl
end

end Cert.KernelIdeal.Body

end
-- ==== Proof.Triple.lean ====
/- Triples of straight-line memory programs: a program started at known contents of the seven buffers gives a known result
   and leaves known contents. -/
module

public import proofs.«01_k».proof.Proof.Body
public import Idealize.ShloMosaic.Lib.Pipeline.FrameBody
public import Idealize.ShloMosaic.Lib.Ring

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal

variable {F : FTy → Type} [FloatOps F] [Facts]

local notation "𝕄" => MT nD τ sig Unit (Elt F) ℕ (UR sig nD τ) ℕ

/-- A load of a memref held at known contents reads those contents under the coordinates. -/
theorem load_owns (c : Dev nD) (E : Set ℕ) {s : Shape} {e : EltTy} (m : Memref sig .tc .vmem s e) (X : s.Idx → Elt F e)
    (r : LoadRect s) (hl : m.view.LoadsAt r) (K : (r.shape.Idx → Elt F e) → sProp 𝕄) :
    iprop(owns (c : Thread nD τ) m fullShare X ∗ (owns (c : Thread nD τ) m fullShare X -∗ K (fun x => X (r.idx x))))
      ⊢ wp frame (wpE (defs₀ (F := F)) Variants.none (c : Thread nD τ) none) E (Prog.lift (.load m r hl) : PG F _) K := by
  unfold owns
  iintro ⟨⟨%f, %hf, H⟩, Hk⟩
  subst hf
  rw [show (fun x => m.view.read (Elt F) f (r.idx x)) = m.view.readAt (Elt F) r f from rfl]
  iapply (wp_load Variants.none (c : Thread nD τ) none E (S := m.view.set) (Finset.map_subset_map.2 (Finset.subset_univ _))) $$ [H]
  · iexact H
  iintro H
  iapply le_wp_ret
  iapply Hk
  iexists f
  isplitr
  · ipureintro; rfl
  iexact H

/-- A store over a memref held at known contents changes the contents under the rectangle to the payload. -/
theorem store_owns (c : Dev nD) (E : Set ℕ) {s : Shape} {e : EltTy} (m : Memref sig .tc .vmem s e) (X X' : s.Idx → Elt F e)
    (r : Rect s) (w : r.shape.Idx → Elt F e) (hx : (m.access r).Stores Finset.univ) (hm)
    (hin : ∀ x, X' (r.emb x) = w x) (hout : ∀ y, (∀ x, r.emb x ≠ y) → X' y = X y) (K : PUnit → sProp 𝕄) :
    iprop(owns (c : Thread nD τ) m fullShare X ∗ (owns (c : Thread nD τ) m fullShare X' -∗ K ⟨⟩))
      ⊢ wp frame (wpE (defs₀ (F := F)) Variants.none (c : Thread nD τ) none) E (Prog.lift (.store m r w Finset.univ hx hm) : PG F _) K := by
  unfold owns
  iintro ⟨⟨%f, %hf, H⟩, Hk⟩
  subst hf
  iapply (wp_store Variants.none (c : Thread nD τ) none E (S := m.view.set) (by
    intro i hi
    obtain ⟨x, _, rfl⟩ := Finset.mem_map.1 hi
    exact Finset.mem_map.2 ⟨r.emb x, Finset.mem_univ _, rfl⟩)) $$ [H]
  · iexact H
  iintro H
  iapply le_wp_ret
  iapply Hk
  iexists _
  isplitr
  swap
  · iexact H
  ipureintro
  funext y
  by_cases hy : ∃ x, r.emb x = y
  · obtain ⟨x, rfl⟩ := hy
    rw [hin]
    exact View.read_slice_write_emb _ _ _ (Finset.mem_univ _)
  · rw [hout y fun x hx => hy ⟨x, hx⟩]
    refine View.read_slice_write_of_not_mem _ _ _ _ fun h => hy ?_
    obtain ⟨x, _, hx⟩ := Finset.mem_map.1 h
    exact ⟨x, hx⟩

/-- The contents of the seven buffers. -/
structure St (F : FTy → Type) [FloatOps F] where
  w : Vec F S32x32768 .bf16
  s : Vec F S16x32768 .bf16
  h : Vec F S512x512 .bf16
  c : Vec F S32x16384 .i8
  o : Vec F S32x256 .f32
  y : Vec F S8x8x4x32x128 .f32
  z : Vec F S4x32x128 .f32

/-- The seven memrefs. -/
structure Ms where
  a1 : Memref sig .tc .vmem S32x32768 .bf16
  a2 : Memref sig .tc .vmem S16x32768 .bf16
  a3 : Memref sig .tc .vmem S512x512 .bf16
  a4 : Memref sig .tc .vmem S32x16384 .i8
  a5 : Memref sig .tc .vmem S32x256 .f32
  a6 : Memref sig .tc .vmem S8x8x4x32x128 .f32
  a7 : Memref sig .tc .vmem S4x32x128 .f32

/-- The core holds the seven buffers at the contents `st`. -/
def own (c : Dev nD) (M : Ms) (st : St F) : sProp 𝕄 :=
  iprop(owns (c : Thread nD τ) M.a1 fullShare st.w ∗ owns (c : Thread nD τ) M.a2 fullShare st.s ∗ owns (c : Thread nD τ) M.a3 fullShare st.h
    ∗ owns (c : Thread nD τ) M.a4 fullShare st.c ∗ owns (c : Thread nD τ) M.a5 fullShare st.o ∗ owns (c : Thread nD τ) M.a6 fullShare st.y
    ∗ owns (c : Thread nD τ) M.a7 fullShare st.z)

/-- From the contents `st` the program gives `a` and leaves `st'`. -/
def T (M : Ms) {α : Type} (p : PG F α) (st : St F) (a : α) (st' : St F) : Prop :=
  ∀ (c : Dev nD) (E : Set ℕ) (K : α → sProp 𝕄), iprop(own c M st ∗ (own c M st' -∗ K a))
    ⊢ wp frame (wpE (defs₀ (F := F)) Variants.none (c : Thread nD τ) none) E p K

variable {M : Ms} {α β : Type}

theorem T_pure (a : α) (st : St F) : T M (pure a) st a st := by
  intro c E K
  iintro ⟨H, Hk⟩
  iapply le_wp_ret
  iapply Hk
  iexact H

theorem T_bind {p : PG F α} {k : α → PG F β} {st st' st'' : St F} {a : α} {b : β} (hp : T M p st a st') (hk : T M (k a) st' b st'') :
    T M (p >>= k) st b st'' := by
  intro c E K
  rw [wp_bind]
  iintro ⟨H, Hk⟩
  iapply (hp c E _)
  isplitl [H]; · iexact H
  iintro H
  iapply (hk c E _)
  isplitl [H]; · iexact H
  iexact Hk

theorem T_each {n : Nat} {f : Fin n → PG F PUnit} {S : Nat → St F} (h : ∀ i : Fin n, T M (f i) (S i.val) ⟨⟩ (S (i.val + 1))) :
    T M (each n f) (S 0) ⟨⟩ (S n) := by
  induction n generalizing S with
  | zero => exact T_pure _ _
  | succ n ih =>
    refine T_bind (h 0) ?_
    exact ih (S := fun k => S (k + 1)) (f := fun i => f i.succ) fun i => h i.succ

theorem T_gather {n : Nat} {f : Fin n → PG F α} {v : Fin n → α} {S : Nat → St F}
    (h : ∀ i : Fin n, T M (f i) (S i.val) (v i) (S (i.val + 1))) : T M (gather n f) (S 0) v (S n) := by
  induction n generalizing S with
  | zero => rw [show v = Fin.elim0 from funext fun i => i.elim0]; exact T_pure _ _
  | succ n ih =>
    refine T_bind (h 0) (T_bind (ih (S := fun k => S (k + 1)) (f := fun i => f i.succ) (v := fun i => v i.succ) fun i => h i.succ) ?_)
    rw [show v = Fin.cons (v 0) (fun i => v i.succ) from (Fin.cons_self_tail v).symm]
    exact T_pure _ _

/-- A load of one of the seven. -/
theorem T_load {st : St F} {s : Shape} {e : EltTy} {m : Memref sig .tc .vmem s e} {X : s.Idx → Elt F e}
    (hs : ∀ c : Dev nD, own c M st ⊢ iprop(owns (c : Thread nD τ) m fullShare X ∗ (owns (c : Thread nD τ) m fullShare X -∗ own c M st)))
    (r : LoadRect s) (hl : m.view.LoadsAt r) : T M (Prog.lift (.load m r hl)) st (fun x => X (r.idx x)) st := by
  intro c E K
  iintro ⟨H, Hk⟩
  ihave H' := (hs c) $$ H
  icases H' with ⟨H1, Hr⟩
  iapply (load_owns c E m X r hl K)
  isplitl [H1]; · iexact H1
  iintro H1
  iapply Hk
  iapply Hr
  iexact H1

/-- A store to one of the seven. -/
theorem T_store {st st' : St F} {s : Shape} {e : EltTy} {m : Memref sig .tc .vmem s e} {X X' : s.Idx → Elt F e}
    (hs : ∀ c : Dev nD, own c M st ⊢ iprop(owns (c : Thread nD τ) m fullShare X ∗ (owns (c : Thread nD τ) m fullShare X' -∗ own c M st')))
    (r : Rect s) (w : r.shape.Idx → Elt F e) (hx : (m.access r).Stores Finset.univ) (hm)
    (hin : ∀ x, X' (r.emb x) = w x) (hout : ∀ y, (∀ x, r.emb x ≠ y) → X' y = X y) :
    T M (Prog.lift (.store m r w Finset.univ hx hm)) st ⟨⟩ st' := by
  intro c E K
  iintro ⟨H, Hk⟩
  ihave H' := (hs c) $$ H
  icases H' with ⟨H1, Hr⟩
  iapply (store_owns c E m X X' r w hx hm hin hout K)
  isplitl [H1]; · iexact H1
  iintro H1
  iapply Hk
  iapply Hr
  iexact H1

theorem split1 (st : St F) (X : _) (c : Dev nD) : own c M st ⊢ iprop(owns (c : Thread nD τ) M.a1 fullShare st.w
    ∗ (owns (c : Thread nD τ) M.a1 fullShare X -∗ own c M { st with w := X })) := by
  unfold own
  iintro ⟨H1, H2, H3, H4, H5, H6, H7⟩
  isplitl [H1]; · iexact H1
  iintro H1
  iframe

theorem split2 (st : St F) (X : _) (c : Dev nD) : own c M st ⊢ iprop(owns (c : Thread nD τ) M.a2 fullShare st.s
    ∗ (owns (c : Thread nD τ) M.a2 fullShare X -∗ own c M { st with s := X })) := by
  unfold own
  iintro ⟨H1, H2, H3, H4, H5, H6, H7⟩
  isplitl [H2]; · iexact H2
  iintro H2
  iframe

theorem split3 (st : St F) (X : _) (c : Dev nD) : own c M st ⊢ iprop(owns (c : Thread nD τ) M.a3 fullShare st.h
    ∗ (owns (c : Thread nD τ) M.a3 fullShare X -∗ own c M { st with h := X })) := by
  unfold own
  iintro ⟨H1, H2, H3, H4, H5, H6, H7⟩
  isplitl [H3]; · iexact H3
  iintro H3
  iframe

theorem split4 (st : St F) (X : _) (c : Dev nD) : own c M st ⊢ iprop(owns (c : Thread nD τ) M.a4 fullShare st.c
    ∗ (owns (c : Thread nD τ) M.a4 fullShare X -∗ own c M { st with c := X })) := by
  unfold own
  iintro ⟨H1, H2, H3, H4, H5, H6, H7⟩
  isplitl [H4]; · iexact H4
  iintro H4
  iframe

theorem split5 (st : St F) (X : _) (c : Dev nD) : own c M st ⊢ iprop(owns (c : Thread nD τ) M.a5 fullShare st.o
    ∗ (owns (c : Thread nD τ) M.a5 fullShare X -∗ own c M { st with o := X })) := by
  unfold own
  iintro ⟨H1, H2, H3, H4, H5, H6, H7⟩
  isplitl [H5]; · iexact H5
  iintro H5
  iframe

theorem split6 (st : St F) (X : _) (c : Dev nD) : own c M st ⊢ iprop(owns (c : Thread nD τ) M.a6 fullShare st.y
    ∗ (owns (c : Thread nD τ) M.a6 fullShare X -∗ own c M { st with y := X })) := by
  unfold own
  iintro ⟨H1, H2, H3, H4, H5, H6, H7⟩
  isplitl [H6]; · iexact H6
  iintro H6
  iframe

theorem split7 (st : St F) (X : _) (c : Dev nD) : own c M st ⊢ iprop(owns (c : Thread nD τ) M.a7 fullShare st.z
    ∗ (owns (c : Thread nD τ) M.a7 fullShare X -∗ own c M { st with z := X })) := by
  unfold own
  iintro ⟨H1, H2, H3, H4, H5, H6, H7⟩
  isplitl [H7]; · iexact H7
  iintro H7
  iframe

end Cert.KernelIdeal.Body

end
-- ==== Proof.Units.lean ====
/- What the body leaves: the contents of the four written buffers as functions of the three inputs, and the triple of the whole body. -/
module

public import proofs.«01_k».proof.Proof.Triple
public import Idealize.ShloMosaic.Lib.Pointwise

@[expose] public section

set_option maxRecDepth 16384

noncomputable section

namespace Cert.KernelIdeal.Body

open Idealize.ShloMosaic Idealize.ShloMosaic.TcCoe Idealize.ShloMosaic.Tactic
open Idealize.SL.Sem
open Cert.KernelIdeal
open Shapes1.Facts₀ Shapes2.Facts₀

variable {F : FTy → Type} [FloatOps F] [Facts] {M : Ms}

/-- `new` where the key is below `k`, `old` elsewhere. -/
def mix {ι α : Type} (key : ι → Nat) (k : Nat) (new old : ι → α) : ι → α := fun i => if key i < k then new i else old i

theorem mix_zero {ι α : Type} (key : ι → Nat) (new old : ι → α) : mix key 0 new old = old := rfl

theorem mix_all {ι α : Type} {key : ι → Nat} {k : Nat} (h : ∀ i, key i < k) (new old : ι → α) : mix key k new old = new :=
  funext fun i => if_pos (h i)

theorem mix_new {ι α : Type} {key : ι → Nat} {k : Nat} {new old : ι → α} {i : ι} (h : key i < k) : mix key k new old i = new i := if_pos h

theorem mix_old {ι α : Type} {key : ι → Nat} {k : Nat} {new old : ι → α} {i : ι} (h : k ≤ key i) : mix key k new old i = old i :=
  if_neg (Nat.not_lt.2 h)

theorem mix_out {ι κ α : Type} {key : ι → Nat} {k : Nat} {new old : ι → α} {emb : κ → ι} (h : ∀ y, key y = k → ∃ x, emb x = y) (y : ι)
    (hy : ∀ x, emb x ≠ y) : mix key (k + 1) new old y = mix key k new old y := by
  have : key y ≠ k := fun e => by obtain ⟨x, hx⟩ := h y e; exact hy x hx
  unfold mix
  split <;> split <;> first | rfl | omega

/-- The triple at equal contents. -/
theorem T_congr {α : Type} {p : PG F α} {st st1 st' st1' : St F} {a : α} (h : T M p st a st') (e : st = st1) (e' : st' = st1') : T M p st1 a st1' := by
  subst e; subst e'; exact h

/-! ## The values -/

section
variable (w : Vec F S32x32768 .bf16) (s : Vec F S16x32768 .bf16) (h : Vec F S512x512 .bf16)

/-- One chunk of the block, both row halves, times the signs. -/
def chunk (m lo : Fin 8) : FVec F S16x512 .bf16 × FVec F S16x512 .bf16 :=
  (mulf (shapeCast S16x512 (fun x => w ((Rect.unit (s := S32x32768) ![(0 : Fin 2).val * 16, (m.val * 8 + lo.val) * 512] S16x512.size (inbW 0 m lo)).toLoadRect.idx x)) shapeCasts_S16x512_S16x512)
      (shapeCast S16x512 (fun x => s ((Rect.unit (s := S16x32768) ![0, (m.val * 8 + lo.val) * 512] S16x512.size (inbS m lo)).toLoadRect.idx x)) shapeCasts_S16x512_S16x512),
   mulf (shapeCast S16x512 (fun x => w ((Rect.unit (s := S32x32768) ![(1 : Fin 2).val * 16, (m.val * 8 + lo.val) * 512] S16x512.size (inbW 1 m lo)).toLoadRect.idx x)) shapeCasts_S16x512_S16x512)
      (shapeCast S16x512 (fun x => s ((Rect.unit (s := S16x32768) ![0, (m.val * 8 + lo.val) * 512] S16x512.size (inbS m lo)).toLoadRect.idx x)) shapeCasts_S16x512_S16x512))

/-- The chunks of phase one after the butterflies over `lo`. -/
def part (m : Fin 8) : Fin 8 → FVec F S32x512 .f32 :=
  bfly (rowsX (prodX (stack16 (chunk w s m)) (fun x => h ((Rect.unit (s := S512x512) ![0, 0] S512x512.size inb_S512x512_S512x512_0_0).toLoadRect.idx x))))

/-- `y` after phase one. -/
def Y1 : Vec F S8x8x4x32x128 .f32 := fun i =>
  part w s h (i 0) (i 1) (ix2 (i 3) (⟨(i 2).val * 128 + (i 4).val, by have h1 : (i 2).val < 4 := (i 2).isLt; have h2 : (i 4).val < 128 := (i 4).isLt; omega⟩ : Fin 512))

/-- Eight rows of a block of `y`. -/
def y8 (Y : Vec F S8x8x4x32x128 .f32) (m lo : Fin 8) (dp rb : Fin 4) : FVec F S8x128 .f32 :=
  shapeCast S8x128 (fun x => Y ((Rect.unit (s := S8x8x4x32x128) ![m.val, lo.val, dp.val, rb.val * 8, 0] S1x1x1x8x128.size (inbY8 m lo dp rb)).toLoadRect.idx x))
    shapeCasts_S1x1x1x8x128_S8x128

/-- A block of `y`. -/
def yb (Y : Vec F S8x8x4x32x128 .f32) (m lo : Fin 8) (dp : Fin 4) : FVec F S32x128 .f32 :=
  shapeCast S32x128 (fun x => Y ((Rect.unit (s := S8x8x4x32x128) ![m.val, lo.val, dp.val, 0, 0] S1x1x1x32x128.size (inbY m lo dp)).toLoadRect.idx x))
    shapeCasts_S1x1x1x32x128_S32x128

/-- Eight rows after the butterflies over `m`. -/
def gOf (Y : Vec F S8x8x4x32x128 .f32) (lo : Fin 8) (rb : Fin 4) (dp : Fin 4) : Fin 8 → FVec F S8x128 .f32 := bfly fun m => y8 Y m lo dp rb

/-- `y` after phase two. -/
def Y2 (Y : Vec F S8x8x4x32x128 .f32) : Vec F S8x8x4x32x128 .f32 := fun i =>
  gOf Y (i 1) (⟨(i 3).val / 8, by have h1 : (i 3).val < 32 := (i 3).isLt; omega⟩ : Fin 4) (i 2) (i 0) (ix2 (⟨(i 3).val % 8, by omega⟩ : Fin 8) (i 4))

/-- The scales of `lo`, as phase two lays them out. -/
def scl (Y : Vec F S8x8x4x32x128 .f32) (lo : Fin 8) : FVec F S8x128 .f32 :=
  scaleOf (stackM fun rb => maxH (maxT fun dg p => gOf Y lo rb (dpOf dg p)))

/-- `z` after phase two. -/
def Zf (Y : Vec F S8x8x4x32x128 .f32) : Vec F S4x32x128 .f32 := fun i =>
  scl Y (⟨(i 1).val / 4, by have h1 : (i 1).val < 32 := (i 1).isLt; omega⟩ : Fin 8)
    (ix2 (⟨(i 0).val * 2 + (i 1).val % 2, by have h1 : (i 0).val < 4 := (i 0).isLt; omega⟩ : Fin 8) (i 2))

/-- The codes of one block. -/
def codeOf (Y : Vec F S8x8x4x32x128 .f32) (lo m : Fin 8) (dg : Fin 2) : IVec S32x128 8 :=
  packOf (wordsOf (yb (Y2 Y) m lo (dpOf dg 0)) (mulsOf (multT (multOf (scl Y lo))) m dg))
    (wordsOf (yb (Y2 Y) m lo (dpOf dg 1)) (mulsOf (multT (multOf (scl Y lo))) m dg))

/-- The codes. -/
def Cf (Y : Vec F S8x8x4x32x128 .f32) : Vec F S32x16384 .i8 := fun i =>
  codeOf Y (⟨(i 1).val / 256 % 8, by omega⟩ : Fin 8) (⟨(i 1).val / 2048, by have h1 : (i 1).val < 16384 := (i 1).isLt; omega⟩ : Fin 8) (⟨(i 1).val / 128 % 2, by omega⟩ : Fin 2)
    (ix2 (i 0) (⟨(i 1).val % 128, by omega⟩ : Fin 128))

/-- The scales' rows of eight rows. -/
def zb (Z : Vec F S4x32x128 .f32) (rb : Fin 4) : Vec F S1x32x128 .f32 :=
  fun x => Z ((Rect.unit (s := S4x32x128) ![rb.val, 0, 0] S1x32x128.size (inbZ1 rb)).toLoadRect.idx x)

/-- The scales. -/
def Of (Z : Vec F S4x32x128 .f32) : Vec F S32x256 .f32 := fun i =>
  scBlock (zT (zb Z (⟨(i 0).val / 8, by have h1 : (i 0).val < 32 := (i 0).isLt; omega⟩ : Fin 4))) (⟨(i 1).val / 128, by have h1 : (i 1).val < 256 := (i 1).isLt; omega⟩ : Fin 2)
    (ix2 (⟨(i 0).val % 8, by omega⟩ : Fin 8) (⟨(i 1).val % 128, by omega⟩ : Fin 128))

end

/-! ## Phase one -/

/-- The order in which phase one writes `y`. -/
def key1 (i : S8x8x4x32x128.Idx) : Nat := 32 * (i 0).val + 4 * (i 1).val + (i 2).val

theorem T_piece (st : St F) (m lo : Fin 8) : T M (piece M.a1 M.a2 m lo) st (chunk st.w st.s m lo) st := by
  refine T_bind (T_load (split2 st st.s) _ _) ?_
  refine T_bind (T_load (split1 st st.w) _ _) ?_
  refine T_bind (T_load (split1 st st.w) _ _) ?_
  exact T_pure _ _

theorem T_putY (st : St F) (Y old : Vec F S8x8x4x32x128 .f32) (m lo : Fin 8) (dp : Fin 4) (v : FVec F S32x128 .f32)
    (hv : ∀ (r : Fin 32) (j : Fin 128), Y (ix5 m lo dp r j) = v (ix2 r j)) :
    T M (putY M.a6 m lo dp v) { st with y := mix key1 (32 * m.val + 4 * lo.val + dp.val) Y old } ⟨⟩
      { st with y := mix key1 (32 * m.val + 4 * lo.val + dp.val + 1) Y old } := by
  refine T_bind (T_load (split6 _ _) _ _) ?_
  refine T_store (split6 _ _) _ _ _ _ (fun x => ?_) (mix_out fun y hy => ?_)
  · have h0 : (x 0).val < 1 := (x 0).isLt
    have h1 : (x 1).val < 1 := (x 1).isLt
    have h2 : (x 2).val < 1 := (x 2).isLt
    have e : (Rect.unit (s := S8x8x4x32x128) ![m.val, lo.val, dp.val, 0, 0] S1x1x1x32x128.size (inbY m lo dp)).emb x = ix5 (n3 := 32) (n4 := 128) m lo dp (x 3) (x 4) := by
      funext a
      apply Fin.ext
      rw [Rect.emb_apply]
      fin_cases a
      · show m.val + 1 * (x 0).val = m.val; omega
      · show lo.val + 1 * (x 1).val = lo.val; omega
      · show dp.val + 1 * (x 2).val = dp.val; omega
      · show 0 + 1 * (x 3).val = (x 3).val; omega
      · show 0 + 1 * (x 4).val = (x 4).val; omega
    rw [e, mix_new (by show 32 * m.val + 4 * lo.val + dp.val < _; omega)]
    refine (hv _ _).trans ?_
    refine (shapeCast_apply v _ x (ix2 (x 3) (x 4)) ?_).symm
    rw [Shape.rowMajor_val_two, Shape.rowMajor_val_five]
    show (x 3).val * 128 + (x 4).val = ((((x 0).val * 1 + (x 1).val) * 1 + (x 2).val) * 32 + (x 3).val) * 128 + (x 4).val
    omega
  · have h0 : (y 0).val < 8 := (y 0).isLt
    have h1 : (y 1).val < 8 := (y 1).isLt
    have h2 : (y 2).val < 4 := (y 2).isLt
    have hk : 32 * (y 0).val + 4 * (y 1).val + (y 2).val = 32 * m.val + 4 * lo.val + dp.val := hy
    refine ⟨ix5 (0 : Fin 1) (0 : Fin 1) (0 : Fin 1) (y 3) (y 4), ?_⟩
    funext a
    apply Fin.ext
    rw [Rect.emb_apply]
    fin_cases a
    · show m.val + 1 * 0 = (y 0).val; omega
    · show lo.val + 1 * 0 = (y 1).val; omega
    · show dp.val + 1 * 0 = (y 2).val; omega
    · show 0 + 1 * (y 3).val = (y 3).val; omega
    · show 0 + 1 * (y 4).val = (y 4).val; omega

theorem T_unit1 (st : St F) (old : Vec F S8x8x4x32x128 .f32) (m : Fin 8) :
    T M (unit1 M.a1 M.a2 M.a3 M.a6 m) { st with y := mix key1 (32 * m.val) (Y1 st.w st.s st.h) old } ⟨⟩
      { st with y := mix key1 (32 * (m.val + 1)) (Y1 st.w st.s st.h) old } := by
  refine T_bind (T_gather (S := fun _ => _) fun lo => T_piece _ m lo) ?_
  refine T_bind (T_load (split3 _ _) _ _) ?_
  refine T_each (S := fun k => { st with y := mix key1 (32 * m.val + 4 * k) (Y1 st.w st.s st.h) old }) fun lo => ?_
  refine T_each (S := fun k => { st with y := mix key1 (32 * m.val + 4 * lo.val + k) (Y1 st.w st.s st.h) old }) fun dp => ?_
  refine T_putY st _ old m lo dp _ fun r j => ?_
  refine ((extractStridedSlice_apply ![0, dp.val * 128] _ (slP dp) (ix2 r j) (ix2 r (⟨dp.val * 128 + j.val, by omega⟩ : Fin 512)) fun a => ?_).trans ?_).symm
  · fin_cases a
    · show r.val = 0 + r.val; omega
    · rfl
  · rfl

/-! ## Phase two -/

/-- The order in which phase two writes `y`. -/
def key2 (i : S8x8x4x32x128.Idx) : Nat := 128 * (i 1).val + 32 * ((i 3).val / 8) + 8 * (i 2).val + (i 0).val

/-- The index a load of eight rows reads. -/
theorem idx8 (m lo : Fin 8) (dp rb : Fin 4) (x : S1x1x1x8x128.Idx) :
    (Rect.unit (s := S8x8x4x32x128) ![m.val, lo.val, dp.val, rb.val * 8, 0] S1x1x1x8x128.size (inbY8 m lo dp rb)).emb x
      = ix5 (n3 := 32) (n4 := 128) m lo dp (⟨rb.val * 8 + (x 3).val, by have h3 : (x 3).val < 8 := (x 3).isLt; omega⟩ : Fin 32) (x 4) := by
  have h0 : (x 0).val < 1 := (x 0).isLt
  have h1 : (x 1).val < 1 := (x 1).isLt
  have h2 : (x 2).val < 1 := (x 2).isLt
  funext a
  apply Fin.ext
  rw [Rect.emb_apply]
  fin_cases a
  · show m.val + 1 * (x 0).val = m.val; omega
  · show lo.val + 1 * (x 1).val = lo.val; omega
  · show dp.val + 1 * (x 2).val = dp.val; omega
  · show rb.val * 8 + 1 * (x 3).val = rb.val * 8 + (x 3).val; omega
  · show 0 + 1 * (x 4).val = (x 4).val; omega

theorem T_getY8 (st : St F) (Y : Vec F S8x8x4x32x128 .f32) (k : Nat) (m lo : Fin 8) (dp rb : Fin 4)
    (hk : k ≤ 128 * lo.val + 32 * rb.val + 8 * dp.val) :
    T M (getY8 M.a6 m lo dp rb) { st with y := mix key2 k (Y2 Y) Y } (y8 Y m lo dp rb) { st with y := mix key2 k (Y2 Y) Y } := by
  refine T_bind (T_load (split6 _ _) _ _) ?_
  have e : y8 Y m lo dp rb = y8 (mix key2 k (Y2 Y) Y) m lo dp rb := by
    unfold y8
    congr 1
    funext x
    refine (mix_old ?_).symm
    show k ≤ key2 ((Rect.unit (s := S8x8x4x32x128) ![m.val, lo.val, dp.val, rb.val * 8, 0] S1x1x1x8x128.size (inbY8 m lo dp rb)).emb x)
    rw [idx8]
    have h3 : (x 3).val < 8 := (x 3).isLt
    show k ≤ 128 * lo.val + 32 * ((rb.val * 8 + (x 3).val) / 8) + 8 * dp.val + m.val
    omega
  rw [e]
  exact T_pure _ _

theorem T_putY8 (st : St F) (Y : Vec F S8x8x4x32x128 .f32) (m lo : Fin 8) (dp rb : Fin 4) :
    T M (putY8 M.a6 m lo dp rb (bfly (fun m => y8 Y m lo dp rb) m)) { st with y := mix key2 (128 * lo.val + 32 * rb.val + 8 * dp.val + m.val) (Y2 Y) Y } ⟨⟩
      { st with y := mix key2 (128 * lo.val + 32 * rb.val + 8 * dp.val + m.val + 1) (Y2 Y) Y } := by
  refine T_bind (T_load (split6 _ _) _ _) ?_
  refine T_store (split6 _ _) _ _ _ _ (fun x => ?_) (mix_out fun y hy => ?_)
  · have h0 : (x 0).val < 1 := (x 0).isLt
    have h1 : (x 1).val < 1 := (x 1).isLt
    have h2 : (x 2).val < 1 := (x 2).isLt
    have h3 : (x 3).val < 8 := (x 3).isLt
    rw [idx8, mix_new (by show 128 * lo.val + 32 * ((rb.val * 8 + (x 3).val) / 8) + 8 * dp.val + m.val < _; omega)]
    refine Eq.trans ?_ (shapeCast_apply _ _ x (ix2 (x 3) (x 4)) ?_).symm
    · show gOf Y lo (⟨(rb.val * 8 + (x 3).val) / 8, _⟩ : Fin 4) dp m (ix2 (⟨(rb.val * 8 + (x 3).val) % 8, _⟩ : Fin 8) (x 4)) = _
      rw [show (⟨(rb.val * 8 + (x 3).val) / 8, by omega⟩ : Fin 4) = rb from Fin.ext (by show (rb.val * 8 + (x 3).val) / 8 = rb.val; omega),
        show (⟨(rb.val * 8 + (x 3).val) % 8, by omega⟩ : Fin 8) = x 3 from Fin.ext (by show (rb.val * 8 + (x 3).val) % 8 = (x 3).val; omega)]
      rfl
    · rw [Shape.rowMajor_val_two, Shape.rowMajor_val_five]
      show (x 3).val * 128 + (x 4).val = ((((x 0).val * 1 + (x 1).val) * 1 + (x 2).val) * 8 + (x 3).val) * 128 + (x 4).val
      omega
  · have h0 : (y 0).val < 8 := (y 0).isLt
    have h1 : (y 1).val < 8 := (y 1).isLt
    have h2 : (y 2).val < 4 := (y 2).isLt
    have h3 : (y 3).val < 32 := (y 3).isLt
    have hk : 128 * (y 1).val + 32 * ((y 3).val / 8) + 8 * (y 2).val + (y 0).val = 128 * lo.val + 32 * rb.val + 8 * dp.val + m.val := hy
    refine ⟨ix5 (0 : Fin 1) (0 : Fin 1) (0 : Fin 1) (⟨(y 3).val % 8, by omega⟩ : Fin 8) (y 4), ?_⟩
    rw [idx8]
    funext a
    apply Fin.ext
    fin_cases a
    · show m.val = (y 0).val; omega
    · show lo.val = (y 1).val; omega
    · show dp.val = (y 2).val; omega
    · show rb.val * 8 + (y 3).val % 8 = (y 3).val; omega
    · rfl

theorem T_bfBlock (st : St F) (Y : Vec F S8x8x4x32x128 .f32) (lo : Fin 8) (dp rb : Fin 4) :
    T M (bfBlock M.a6 lo dp rb) { st with y := mix key2 (128 * lo.val + 32 * rb.val + 8 * dp.val) (Y2 Y) Y } (gOf Y lo rb dp)
      { st with y := mix key2 (128 * lo.val + 32 * rb.val + 8 * dp.val + 8) (Y2 Y) Y } := by
  refine T_bind (T_gather (S := fun _ => _) fun m => T_getY8 st Y _ m lo dp rb le_rfl) ?_
  refine T_bind (T_each (S := fun k => { st with y := mix key2 (128 * lo.val + 32 * rb.val + 8 * dp.val + k) (Y2 Y) Y }) fun m => T_putY8 st Y m lo dp rb) ?_
  exact T_pure _ _

theorem T_rbBlock (st : St F) (Y : Vec F S8x8x4x32x128 .f32) (lo : Fin 8) (rb : Fin 4) :
    T M (rbBlock M.a6 lo rb) { st with y := mix key2 (128 * lo.val + 32 * rb.val) (Y2 Y) Y } (maxH (maxT fun dg p => gOf Y lo rb (dpOf dg p)))
      { st with y := mix key2 (128 * lo.val + 32 * (rb.val + 1)) (Y2 Y) Y } := by
  refine T_bind (T_gather (S := fun k => { st with y := mix key2 (128 * lo.val + 32 * rb.val + 16 * k) (Y2 Y) Y }) fun dg => ?_) (T_pure _ _)
  refine T_congr (T_gather (S := fun k => { st with y := mix key2 (128 * lo.val + 32 * rb.val + 16 * dg.val + 8 * k) (Y2 Y) Y }) fun p => ?_) rfl rfl
  refine T_congr (T_bfBlock st Y lo (dpOf dg p) rb) ?_ ?_
  · rw [show 128 * lo.val + 32 * rb.val + 8 * (dpOf dg p).val = 128 * lo.val + 32 * rb.val + 16 * dg.val + 8 * p.val from by
      show 128 * lo.val + 32 * rb.val + 8 * (dg.val * 2 + p.val) = _; omega]
  · rw [show 128 * lo.val + 32 * rb.val + 8 * (dpOf dg p).val + 8 = 128 * lo.val + 32 * rb.val + 16 * dg.val + 8 * (p.val + 1) from by
      show 128 * lo.val + 32 * rb.val + 8 * (dg.val * 2 + p.val) + 8 = _; omega]

/-- The order in which phase two writes `z`. -/
def keyZ (i : S4x32x128.Idx) : Nat := 8 * ((i 1).val / 4) + 2 * (i 0).val + (i 1).val / 2 % 2

theorem idxZ (rb : Fin 4) (lo : Fin 8) (dg : Fin 2) (x : S1x2x128.Idx) :
    (Rect.unit (s := S4x32x128) ![rb.val, lo.val * 4 + dg.val * 2, 0] S1x2x128.size (inbZ rb lo dg)).emb x
      = ix3 (n2 := 128) rb (⟨lo.val * 4 + dg.val * 2 + (x 1).val, by have h3 : (x 1).val < 2 := (x 1).isLt; omega⟩ : Fin 32) (x 2) := by
  have h0 : (x 0).val < 1 := (x 0).isLt
  funext a
  apply Fin.ext
  rw [Rect.emb_apply]
  fin_cases a
  · show rb.val + 1 * (x 0).val = rb.val; omega
  · show lo.val * 4 + dg.val * 2 + 1 * (x 1).val = lo.val * 4 + dg.val * 2 + (x 1).val; omega
  · show 0 + 1 * (x 2).val = (x 2).val; omega

theorem T_putZ (st : St F) (Y : Vec F S8x8x4x32x128 .f32) (old : Vec F S4x32x128 .f32) (rb : Fin 4) (lo : Fin 8) (dg : Fin 2) :
    T M (putZ M.a7 rb lo dg (scl Y lo)) { st with z := mix keyZ (8 * lo.val + 2 * rb.val + dg.val) (Zf Y) old } ⟨⟩
      { st with z := mix keyZ (8 * lo.val + 2 * rb.val + dg.val + 1) (Zf Y) old } := by
  refine T_bind (T_load (split7 _ _) _ _) ?_
  refine T_store (split7 _ _) _ _ _ _ (fun x => ?_) (mix_out fun y hy => ?_)
  · have h0 : (x 0).val < 1 := (x 0).isLt
    have h1 : (x 1).val < 2 := (x 1).isLt
    rw [idxZ, mix_new (by
      show 8 * ((lo.val * 4 + dg.val * 2 + (x 1).val) / 4) + 2 * rb.val + (lo.val * 4 + dg.val * 2 + (x 1).val) / 2 % 2 < _; omega)]
    refine Eq.trans ?_ (shapeCast_apply _ _ x (ix2 (x 1) (x 2)) ?_).symm
    · refine Eq.trans ?_ (extractStridedSlice_apply ![rb.val * 2, 0] _ (slS rb) (ix2 (x 1) (x 2)) (ix2 (⟨rb.val * 2 + (x 1).val, by omega⟩ : Fin 8) (x 2)) fun a => ?_).symm
      · show scl Y (⟨(lo.val * 4 + dg.val * 2 + (x 1).val) / 4, _⟩ : Fin 8) (ix2 (⟨rb.val * 2 + (lo.val * 4 + dg.val * 2 + (x 1).val) % 2, _⟩ : Fin 8) (x 2)) = _
        congr 1
        · rw [show (⟨(lo.val * 4 + dg.val * 2 + (x 1).val) / 4, by omega⟩ : Fin 8) = lo from Fin.ext (by show (lo.val * 4 + dg.val * 2 + (x 1).val) / 4 = lo.val; omega)]
        · congr 1
          exact Fin.ext (by show rb.val * 2 + (lo.val * 4 + dg.val * 2 + (x 1).val) % 2 = rb.val * 2 + (x 1).val; omega)
      · fin_cases a
        · rfl
        · show (x 2).val = 0 + (x 2).val; omega
    · rw [Shape.rowMajor_val_two, Shape.rowMajor_val_three]
      show (x 1).val * 128 + (x 2).val = ((x 0).val * 2 + (x 1).val) * 128 + (x 2).val
      omega
  · have h0 : (y 0).val < 4 := (y 0).isLt
    have h1 : (y 1).val < 32 := (y 1).isLt
    have hk : 8 * ((y 1).val / 4) + 2 * (y 0).val + (y 1).val / 2 % 2 = 8 * lo.val + 2 * rb.val + dg.val := hy
    refine ⟨ix3 (0 : Fin 1) (⟨(y 1).val % 2, by omega⟩ : Fin 2) (y 2), ?_⟩
    rw [idxZ]
    funext a
    apply Fin.ext
    fin_cases a
    · show rb.val = (y 0).val; omega
    · show lo.val * 4 + dg.val * 2 + (y 1).val % 2 = (y 1).val; omega
    · rfl

theorem T_getY (st : St F) (Y : Vec F S8x8x4x32x128 .f32) (m lo : Fin 8) (dp : Fin 4) (hy : st.y = mix key2 (128 * (lo.val + 1)) (Y2 Y) Y) :
    T M (getY M.a6 m lo dp) st (yb (Y2 Y) m lo dp) st := by
  refine T_bind (T_load (split6 st st.y) _ _) ?_
  have e : yb (Y2 Y) m lo dp = yb st.y m lo dp := by
    unfold yb
    congr 1
    funext x
    rw [hy]
    refine (mix_new ?_).symm
    have h1 : (x 1).val < 1 := (x 1).isLt
    have h2 : (x 2).val < 1 := (x 2).isLt
    have h3 : (x 3).val < 32 := (x 3).isLt
    have h0 : (x 0).val < 1 := (x 0).isLt
    show 128 * (lo.val + 1 * (x 1).val) + 32 * ((0 + 1 * (x 3).val) / 8) + 8 * (dp.val + 1 * (x 2).val) + (m.val + 1 * (x 0).val) < _
    omega
  rw [e]
  exact T_pure _ _

/-- The order in which phase two writes the codes. -/
def keyC (i : S32x16384.Idx) : Nat := 16 * ((i 1).val / 256 % 8) + 2 * ((i 1).val / 2048) + (i 1).val / 128 % 2

theorem idxC (m lo : Fin 8) (dg : Fin 2) (x : S32x128.Idx) :
    (Rect.unit (s := S32x16384) ![0, (m.val * 8 + lo.val) * 256 + dg.val * 128] S32x128.size (inbC m lo dg)).emb x
      = ix2 (n0 := 32) (x 0) (⟨(m.val * 8 + lo.val) * 256 + dg.val * 128 + (x 1).val, by have h3 : (x 1).val < 128 := (x 1).isLt; omega⟩ : Fin 16384) := by
  funext a
  apply Fin.ext
  rw [Rect.emb_apply]
  fin_cases a
  · show 0 + 1 * (x 0).val = (x 0).val; omega
  · show (m.val * 8 + lo.val) * 256 + dg.val * 128 + 1 * (x 1).val = (m.val * 8 + lo.val) * 256 + dg.val * 128 + (x 1).val; omega

theorem T_codeBlock (harg4 : M.a4.IsWhole) (st : St F) (Y : Vec F S8x8x4x32x128 .f32) (old : Vec F S32x16384 .i8) (lo m : Fin 8) (dg : Fin 2)
    (hy : st.y = mix key2 (128 * (lo.val + 1)) (Y2 Y) Y) :
    T M (codeBlock M.a4 harg4 M.a6 lo m dg (mulsOf (multT (multOf (scl Y lo))) m dg)) { st with c := mix keyC (16 * lo.val + 2 * m.val + dg.val) (Cf Y) old } ⟨⟩
      { st with c := mix keyC (16 * lo.val + 2 * m.val + dg.val + 1) (Cf Y) old } := by
  refine T_bind (T_getY _ Y m lo (dpOf dg 0) hy) ?_
  refine T_bind (T_getY _ Y m lo (dpOf dg 1) hy) ?_
  refine T_bind (T_load (split4 _ _) _ _) ?_
  refine T_store (split4 _ _) _ _ _ _ (fun x => ?_) (mix_out fun y hy => ?_)
  · have h1 : (x 1).val < 128 := (x 1).isLt
    have e1 : ((m.val * 8 + lo.val) * 256 + dg.val * 128 + (x 1).val) / 256 % 8 = lo.val := by omega
    have e2 : ((m.val * 8 + lo.val) * 256 + dg.val * 128 + (x 1).val) / 2048 = m.val := by omega
    have e3 : ((m.val * 8 + lo.val) * 256 + dg.val * 128 + (x 1).val) / 128 % 2 = dg.val := by omega
    have e4 : ((m.val * 8 + lo.val) * 256 + dg.val * 128 + (x 1).val) % 128 = (x 1).val := by omega
    rw [idxC, mix_new (by
      show 16 * (((m.val * 8 + lo.val) * 256 + dg.val * 128 + (x 1).val) / 256 % 8) + 2 * (((m.val * 8 + lo.val) * 256 + dg.val * 128 + (x 1).val) / 2048)
        + ((m.val * 8 + lo.val) * 256 + dg.val * 128 + (x 1).val) / 128 % 2 < _
      omega)]
    show codeOf Y (⟨((m.val * 8 + lo.val) * 256 + dg.val * 128 + (x 1).val) / 256 % 8, _⟩ : Fin 8) (⟨((m.val * 8 + lo.val) * 256 + dg.val * 128 + (x 1).val) / 2048, _⟩ : Fin 8)
      (⟨((m.val * 8 + lo.val) * 256 + dg.val * 128 + (x 1).val) / 128 % 2, _⟩ : Fin 2) (ix2 (x 0) (⟨((m.val * 8 + lo.val) * 256 + dg.val * 128 + (x 1).val) % 128, _⟩ : Fin 128)) = _
    simp only [e1, e2, e3, e4]
    show codeOf Y lo m dg (ix2 (x 0) (x 1)) = codeOf Y lo m dg x
    rw [← eq_ix2 x]
  · have h1 : (y 1).val < 16384 := (y 1).isLt
    have hk : 16 * ((y 1).val / 256 % 8) + 2 * ((y 1).val / 2048) + (y 1).val / 128 % 2 = 16 * lo.val + 2 * m.val + dg.val := hy
    have hm : m.val = (y 1).val / 2048 := by omega
    have hl : lo.val = (y 1).val / 256 % 8 := by omega
    have hd : dg.val = (y 1).val / 128 % 2 := by omega
    refine ⟨ix2 (n0 := 32) (y 0) (⟨(y 1).val % 128, by omega⟩ : Fin 128), ?_⟩
    rw [idxC]
    funext a
    apply Fin.ext
    fin_cases a
    · rfl
    · show (m.val * 8 + lo.val) * 256 + dg.val * 128 + (y 1).val % 128 = (y 1).val; omega

/-- The contents at the start of phase two at `lo`. -/
def st2 (st : St F) (Y : Vec F S8x8x4x32x128 .f32) (z : Vec F S4x32x128 .f32) (c : Vec F S32x16384 .i8) (k : Nat) : St F :=
  { st with y := mix key2 (128 * k) (Y2 Y) Y, z := mix keyZ (8 * k) (Zf Y) z, c := mix keyC (16 * k) (Cf Y) c }

theorem T_unit2 (harg4 : M.a4.IsWhole) (st : St F) (Y : Vec F S8x8x4x32x128 .f32) (z : Vec F S4x32x128 .f32) (c : Vec F S32x16384 .i8) (lo : Fin 8) :
    T M (unit2 M.a4 harg4 M.a6 M.a7 lo) (st2 st Y z c lo.val) ⟨⟩ (st2 st Y z c (lo.val + 1)) := by
  refine T_bind (T_gather (S := fun k => { st2 st Y z c lo.val with y := mix key2 (128 * lo.val + 32 * k) (Y2 Y) Y }) fun rb => T_rbBlock _ Y lo rb) ?_
  refine T_bind (T_each (S := fun k => { st2 st Y z c lo.val with y := mix key2 (128 * (lo.val + 1)) (Y2 Y) Y, z := mix keyZ (8 * lo.val + 2 * k) (Zf Y) z }) fun rb => ?_) ?_
  · exact T_each (S := fun k => { st2 st Y z c lo.val with y := mix key2 (128 * (lo.val + 1)) (Y2 Y) Y, z := mix keyZ (8 * lo.val + 2 * rb.val + k) (Zf Y) z })
      fun dg => T_putZ { st2 st Y z c lo.val with y := mix key2 (128 * (lo.val + 1)) (Y2 Y) Y } Y z rb lo dg
  · refine T_each (S := fun k => { st2 st Y z c (lo.val + 1) with c := mix keyC (16 * lo.val + 2 * k) (Cf Y) c }) fun m => ?_
    exact T_each (S := fun k => { st2 st Y z c (lo.val + 1) with c := mix keyC (16 * lo.val + 2 * m.val + k) (Cf Y) c })
      fun dg => T_codeBlock harg4 (st2 st Y z c (lo.val + 1)) Y c lo m dg rfl

/-! ## Phase three -/

/-- The order in which phase three writes the scales. -/
def keyO (i : S32x256.Idx) : Nat := 2 * ((i 0).val / 8) + (i 1).val / 128

theorem idxO (rb : Fin 4) (v : Fin 2) (x : S8x128.Idx) :
    (Rect.unit (s := S32x256) ![rb.val * 8, v.val * 128] S8x128.size (inbO rb v)).emb x
      = ix2 (⟨rb.val * 8 + (x 0).val, by have h3 : (x 0).val < 8 := (x 0).isLt; omega⟩ : Fin 32) (⟨v.val * 128 + (x 1).val, by have h3 : (x 1).val < 128 := (x 1).isLt; omega⟩ : Fin 256) := by
  funext a
  apply Fin.ext
  rw [Rect.emb_apply]
  fin_cases a
  · show rb.val * 8 + 1 * (x 0).val = rb.val * 8 + (x 0).val; omega
  · show v.val * 128 + 1 * (x 1).val = v.val * 128 + (x 1).val; omega

theorem T_unit3 (st : St F) (old : Vec F S32x256 .f32) (rb : Fin 4) :
    T M (unit3 M.a5 M.a7 rb) { st with o := mix keyO (2 * rb.val) (Of st.z) old } ⟨⟩ { st with o := mix keyO (2 * (rb.val + 1)) (Of st.z) old } := by
  refine T_bind (T_load (split7 _ _) _ _) ?_
  refine T_each (S := fun k => { st with o := mix keyO (2 * rb.val + k) (Of st.z) old }) fun v => ?_
  refine T_bind (T_load (split5 _ _) _ _) ?_
  refine T_store (split5 _ _) _ _ _ _ (fun x => ?_) (mix_out fun y hy => ?_)
  · have h0 : (x 0).val < 8 := (x 0).isLt
    have h1 : (x 1).val < 128 := (x 1).isLt
    have e1 : (rb.val * 8 + (x 0).val) / 8 = rb.val := by omega
    have e2 : (rb.val * 8 + (x 0).val) % 8 = (x 0).val := by omega
    have e3 : (v.val * 128 + (x 1).val) / 128 = v.val := by omega
    have e4 : (v.val * 128 + (x 1).val) % 128 = (x 1).val := by omega
    rw [idxO, mix_new (by show 2 * ((rb.val * 8 + (x 0).val) / 8) + (v.val * 128 + (x 1).val) / 128 < _; omega)]
    show scBlock (zT (zb st.z (⟨(rb.val * 8 + (x 0).val) / 8, _⟩ : Fin 4))) (⟨(v.val * 128 + (x 1).val) / 128, _⟩ : Fin 2)
      (ix2 (⟨(rb.val * 8 + (x 0).val) % 8, _⟩ : Fin 8) (⟨(v.val * 128 + (x 1).val) % 128, _⟩ : Fin 128)) = _
    simp only [e1, e2, e3, e4]
    show scBlock (zT (zb st.z rb)) v (ix2 (x 0) (x 1)) = scBlock (zT (zb st.z rb)) v x
    rw [← eq_ix2 x]
  · have h0 : (y 0).val < 32 := (y 0).isLt
    have h1 : (y 1).val < 256 := (y 1).isLt
    have hk : 2 * ((y 0).val / 8) + (y 1).val / 128 = 2 * rb.val + v.val := hy
    refine ⟨ix2 (⟨(y 0).val % 8, by omega⟩ : Fin 8) (⟨(y 1).val % 128, by omega⟩ : Fin 128), ?_⟩
    rw [idxO]
    funext a
    apply Fin.ext
    fin_cases a
    · show rb.val * 8 + (y 0).val % 8 = (y 0).val; omega
    · show v.val * 128 + (y 1).val % 128 = (y 1).val; omega

/-! ## The whole body -/

/-- From any contents the body leaves the codes and the scales of its three inputs. -/
theorem T_body (harg4 : M.a4.IsWhole) (st : St F) :
    T M (body M.a1 M.a2 M.a3 M.a4 harg4 M.a5 M.a6 M.a7) st ⟨⟩
      { st with y := Y2 (Y1 st.w st.s st.h), z := Zf (Y1 st.w st.s st.h), c := Cf (Y1 st.w st.s st.h), o := Of (Zf (Y1 st.w st.s st.h)) } := by
  have k1 : ∀ i, key1 i < 32 * 8 := fun i => by
    have h0 : (i 0).val < 8 := (i 0).isLt
    have h1 : (i 1).val < 8 := (i 1).isLt
    have h2 : (i 2).val < 4 := (i 2).isLt
    unfold key1; omega
  have k2 : ∀ i, key2 i < 128 * 8 := fun i => by
    have h0 : (i 0).val < 8 := (i 0).isLt
    have h1 : (i 1).val < 8 := (i 1).isLt
    have h2 : (i 2).val < 4 := (i 2).isLt
    have h3 : (i 3).val < 32 := (i 3).isLt
    unfold key2; omega
  have kz : ∀ i, keyZ i < 8 * 8 := fun i => by
    have h0 : (i 0).val < 4 := (i 0).isLt
    have h1 : (i 1).val < 32 := (i 1).isLt
    unfold keyZ; omega
  have kc : ∀ i, keyC i < 16 * 8 := fun i => by
    have h1 : (i 1).val < 16384 := (i 1).isLt
    unfold keyC; omega
  have ko : ∀ i, keyO i < 2 * 4 := fun i => by
    have h0 : (i 0).val < 32 := (i 0).isLt
    have h1 : (i 1).val < 256 := (i 1).isLt
    unfold keyO; omega
  refine T_bind (T_congr (T_each (S := fun k => { st with y := mix key1 (32 * k) (Y1 st.w st.s st.h) st.y }) fun m => T_unit1 st st.y m)
    (st1' := st2 st (Y1 st.w st.s st.h) st.z st.c 0) ?_ ?_) ?_
  · rfl
  · unfold st2; rw [mix_all k1]; rfl
  refine T_bind (T_congr (T_each (S := st2 st (Y1 st.w st.s st.h) st.z st.c) fun lo => T_unit2 harg4 st _ _ _ lo) rfl
    (st1' := { st with y := Y2 (Y1 st.w st.s st.h), z := Zf (Y1 st.w st.s st.h), c := Cf (Y1 st.w st.s st.h) }) ?_) ?_
  · unfold st2; rw [mix_all k2, mix_all kz, mix_all kc]
  refine T_congr (T_each (S := fun k => { st with y := Y2 (Y1 st.w st.s st.h), z := Zf (Y1 st.w st.s st.h), c := Cf (Y1 st.w st.s st.h), o := mix keyO (2 * k) (Of (Zf (Y1 st.w st.s st.h))) st.o })
    fun rb => T_unit3 { st with y := Y2 (Y1 st.w st.s st.h), z := Zf (Y1 st.w st.s st.h), c := Cf (Y1 st.w st.s st.h) } st.o rb) rfl ?_
  show ({ st with y := _, z := _, c := _, o := mix keyO (2 * 4) _ _ } : St F) = _
  rw [mix_all ko]

end Cert.KernelIdeal.Body

end
-- ==== Proof.Own.lean ====
/- The run of the whole program: what the two outputs hold block by block, the arguments unchanged, the counters at zero. -/
module

public import proofs.«01_k».proof.Proof.Gen.KernelIdeal.Launch
public import proofs.«01_k».proof.Proof.Gen.KernelIdeal.Points
public import proofs.«01_k».proof.Proof.Units
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Claim

@[expose] public section

-- membership in a rectangle of production extents (`View.cover_of_tiled`): the elaborator's structural look
-- recurses once per coordinate of the long axes
set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.KernelIdeal.Body
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `W_…` / `V_…` — is the frame
    claim's post (`Cert.frame_KernelIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(((h c).2 main_arg0 (Pipeline.mem_restRefs_of main_arg0 (by decide) (by decide))).trans (W_main_arg0 m dats c)),
      (((h c).2 main_arg1 (Pipeline.mem_restRefs_of main_arg1 (by decide) (by decide))).trans (W_main_arg1 m dats c))⟩) h

/-- Each window's current staging memref at point `t`, spelled as the pipeline passes it (`bodyAt0`), and its wholeness. -/
abbrev ms0_0 (t : Fin cfg0.N) : Memref sig .tc .vmem S32x32768 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x32768 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S32x16384 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S32x256 .f32 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S8x8x4x32x128 .f32 := Memref.whole cc0_scratch0
abbrev scM0_1 : Memref sig .tc .vmem S4x32x128 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- What the outputs' staging buffers hold after the body at point `t`: the codes and the scales of the point's input blocks. -/
def outC (c : Dev nD) (t : Fin cfg0.N) : Vec F S32x16384 .i8 := Cf (Y1 (iblk m c 0 t) (iblk m c 1 t) (iblk m c 2 t))
def outO (c : Dev nD) (t : Fin cfg0.N) : Vec F S32x256 .f32 := Of (Zf (Y1 (iblk m c 0 t) (iblk m c 1 t) (iblk m c 2 t)))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outC m c t
    | ⟨4, _⟩ => outO m c t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outC m c t := by dsimp only [dats]
theorem after0_4 (c : Dev nD) (t : Fin cfg0.N) : (dats m 0 c).after 4 t = outO m c t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The body on any seven memrefs: the inputs come back, the outputs hold the codes and the scales. -/
theorem run_body [Facts] (c : Dev nD) (i : grid0.Coords) (arg1 : Memref sig .tc .vmem S32x32768 .bf16) (harg1 : arg1.IsWhole) (arg2 : Memref sig .tc .vmem S16x32768 .bf16) (harg2 : arg2.IsWhole) (arg3 : Memref sig .tc .vmem S512x512 .bf16) (harg3 : arg3.IsWhole) (arg4 : Memref sig .tc .vmem S32x16384 .i8) (harg4 : arg4.IsWhole) (arg5 : Memref sig .tc .vmem S32x256 .f32) (harg5 : arg5.IsWhole) (arg6 : Memref sig .tc .vmem S8x8x4x32x128 .f32) (harg6 : arg6.IsWhole) (arg7 : Memref sig .tc .vmem S4x32x128 .f32) (harg7 : arg7.IsWhole)
    (x0 : Vec F S32x32768 .bf16) (x1 : Vec F S16x32768 .bf16) (x2 : Vec F S512x512 .bf16) (E : Set ℕ) (K : PUnit → sProp 𝕄) :
    iprop(owns (c : Thread nD τ) arg1 fullShare x0 ∗ owns (c : Thread nD τ) arg2 fullShare x1 ∗ owns (c : Thread nD τ) arg3 fullShare x2
      ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
      ∗ ((owns (c : Thread nD τ) arg1 fullShare x0 ∗ owns (c : Thread nD τ) arg2 fullShare x1 ∗ owns (c : Thread nD τ) arg3 fullShare x2
        ∗ owns (c : Thread nD τ) arg4 fullShare (Cf (Y1 x0 x1 x2)) ∗ owns (c : Thread nD τ) arg5 fullShare (Of (Zf (Y1 x0 x1 x2)))
        ∗ (∃ d, owns (c : Thread nD τ) arg6 fullShare d) ∗ (∃ d, owns (c : Thread nD τ) arg7 fullShare d)) -∗ K ⟨⟩))
      ⊢ wp frame (wpE (defs₀ (F := F)) Variants.none (c : Thread nD τ) none) E (cc0_wht_int4 (F := F) i arg1 harg1 arg2 harg2 arg3 harg3 arg4 harg4 arg5 harg5 arg6 harg6 arg7 harg7) K := by
  rw [body_eq]
  iintro ⟨H0, H1, H2, ⟨%e3, H3⟩, ⟨%e4, H4⟩, ⟨%e5, H5⟩, ⟨%e6, H6⟩, Hk⟩
  iapply (T_body (M := ⟨arg1, arg2, arg3, arg4, arg5, arg6, arg7⟩) harg4 ⟨x0, x1, x2, e3, e4, e5, e6⟩ c E K)
  unfold Body.own
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  iintro ⟨H0, H1, H2, H3, H4, H5, H6⟩
  iapply Hk
  isplitl [H0]; · iexact H0
  isplitl [H1]; · iexact H1
  isplitl [H2]; · iexact H2
  isplitl [H3]; · iexact H3
  isplitl [H4]; · iexact H4
  isplitl [H5]; · iexists _; iexact H5
  iexists _; iexact H6

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  unfold outC outO
  iintro ⟨⟨⟨HS0, HS1⟩, Hg⟩, Ho, ⟨%d0, H0⟩, ⟨%d1, H1⟩, ⟨%d2, H2⟩, ⟨%d3, H3⟩, ⟨%d4, H4⟩⟩
  iapply (run_body c (grid0.coords t) _ _ _ _ _ _ _ _ _ _ _ _ _ _ (iblk m c 0 t) (iblk m c 1 t) (iblk m c 2 t) Set.univ _)
  isplitl [H0]; · iexact H0
  isplitl [H1]; · iexact H1
  isplitl [H2]; · iexact H2
  isplitl [H3]; · iexists _; iexact H3
  isplitl [H4]; · iexists _; iexact H4
  isplitl [HS0]; · iexact HS0
  isplitl [HS1]; · iexact HS1
  iintro ⟨H0, H1, H2, H3, H4, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  iexact H4

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.KernelIdeal.Own

end
-- ==== Proof.Twin.lean ====
/- The frame of the printed program: its text is that of its reading at the ideal instance, so the same run proves it. -/
module

public import proofs.«01_k».proof.Defs
public import proofs.«01_k».proof.Proof.Gen.Kernel
public import proofs.«01_k».proof.Proof.Own

@[expose] public section

set_option maxRecDepth 16384

noncomputable section

namespace Cert.Proof

open Idealize.ShloMosaic Idealize.ShloMosaic.TcCoe Idealize.SL.Sem Idealize.ShloMosaic.Tactic

/-- The frame statement of the other print of the text, read at the machine's formats. -/
def twin : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

theorem twin_eq : Cert.quiescent_Kernel (hKernel := Cert.Kernel.Gen.facts) = twin := by
  sl_kernel_rfl

theorem frameP : Cert.quiescent_Kernel (hKernel := Cert.Kernel.Gen.facts) := by
  rw [twin_eq]
  exact fun m g _ => Cert.KernelIdeal.Own.frame m g

end Cert.Proof

end
-- ==== Proof.RefRun.lean ====
/- The run of the reference program: one straight line of host operations, whose fifteen butterfly stages are one list at
   fifteen sizes. -/
module

public import proofs.«01_k».proof.Defs
public import proofs.«01_k».proof.Proof.Gen.ReferenceIdeal
public import Idealize.ShloMosaic.Lib.StableHlo.Run
public import Idealize.ShloMosaic.Lib.StableHlo.RunRead
public import Idealize.ShloMosaic.Lib.Tactic
public import Idealize.ShloMosaic.Lib.Quiescent

@[expose] public section

set_option maxRecDepth 16384

noncomputable section

namespace Cert.ReferenceIdeal.Line

open Cert.ReferenceIdeal Cert.ReferenceIdeal.Gen
open Idealize.ShloMosaic Idealize.ShloMosaic.TcCoe Idealize.ShloMosaic.StableHlo Idealize.SL.Sem Idealize.ShloMosaic.Tactic

variable {F : FTy → Type} [FloatOps F]

/-- The shapes of one butterfly stage: pairs split off, one of a pair, one of a pair without its axis. -/
abbrev SA (n h : ℕ) : Shape := ⟨5, ![3, 640, n, 2, h]⟩
abbrev SB (n h : ℕ) : Shape := ⟨5, ![3, 640, n, 1, h]⟩
abbrev SC (n h : ℕ) : Shape := ⟨4, ![3, 640, n, h]⟩

/-- What the operations of one stage ask of its shapes. -/
structure Fits (n h : ℕ) : Prop where
  split : S3x640x32768.ShapeCasts (SA n h)
  lo : (SA n h).Slices ![0, 0, 0, 0, 0] (SB n h)
  hi : (SA n h).Slices ![0, 0, 0, 1, 0] (SB n h)
  drop : (SB n h).ShapeCasts (SC n h)
  bc : (SC n h).BroadcastsInDim (SB n h) ![0, 1, 2, 4]
  cat : Shape.Concatenates [SB n h, SB n h] (SA n h) 3
  join : (SA n h).ShapeCasts S3x640x32768

/-- One stage as a function: sums beside differences of the two halves of each pair of runs of length `h`. -/
def stage (n h : ℕ) (H : Fits n h) (v : FVec F S3x640x32768 .f32) : FVec F S3x640x32768 .f32 :=
  shapeCast S3x640x32768 (concatenate (SA n h) 3
    [⟨SB n h, broadcastInDim (SB n h) ![0, 1, 2, 4] H.bc
        (addf (shapeCast (SC n h) (extractStridedSlice (SB n h) ![0, 0, 0, 0, 0] (shapeCast (SA n h) v H.split) H.lo) H.drop)
          (shapeCast (SC n h) (extractStridedSlice (SB n h) ![0, 0, 0, 1, 0] (shapeCast (SA n h) v H.split) H.hi) H.drop))⟩,
     ⟨SB n h, broadcastInDim (SB n h) ![0, 1, 2, 4] H.bc
        (subf (shapeCast (SC n h) (extractStridedSlice (SB n h) ![0, 0, 0, 0, 0] (shapeCast (SA n h) v H.split) H.lo) H.drop)
          (shapeCast (SC n h) (extractStridedSlice (SB n h) ![0, 0, 0, 1, 0] (shapeCast (SA n h) v H.split) H.hi) H.drop))⟩] H.cat) H.join

/-- The buffers of one stage. -/
structure Bufs (n h : ℕ) where
  x : TRef sig ⟨S3x640x32768, .f32⟩
  a : TRef sig ⟨SA n h, .f32⟩
  b : TRef sig ⟨SB n h, .f32⟩
  c : TRef sig ⟨SC n h, .f32⟩
  d : TRef sig ⟨SB n h, .f32⟩
  e : TRef sig ⟨SC n h, .f32⟩
  f : TRef sig ⟨SC n h, .f32⟩
  g : TRef sig ⟨SC n h, .f32⟩
  i : TRef sig ⟨SB n h, .f32⟩
  j : TRef sig ⟨SB n h, .f32⟩
  k : TRef sig ⟨SA n h, .f32⟩
  y : TRef sig ⟨S3x640x32768, .f32⟩

/-- The buffers a stage writes. -/
abbrev Bufs.outs {n h : ℕ} (B : Bufs n h) : List (Ref sig .tc) :=
  [B.a.ref, B.b.ref, B.c.ref, B.d.ref, B.e.ref, B.f.ref, B.g.ref, B.i.ref, B.j.ref, B.k.ref, B.y.ref]

/-- One stage as operations. -/
def stageOps {n h : ℕ} (H : Fits n h) (B : Bufs n h) : List (HloOp τ sig (Elt F)) :=
  [ TRef.reshape B.x B.a rfl H.split,
    TRef.unary B.a B.b (extractStridedSlice (SB n h) ![0, 0, 0, 0, 0] · H.lo),
    TRef.reshape B.b B.c rfl H.drop,
    TRef.unary B.a B.d (extractStridedSlice (SB n h) ![0, 0, 0, 1, 0] · H.hi),
    TRef.reshape B.d B.e rfl H.drop,
    TRef.binary B.c B.e B.f addf,
    TRef.binary B.c B.e B.g subf,
    TRef.unary B.f B.i (broadcastInDim (SB n h) ![0, 1, 2, 4] H.bc),
    TRef.unary B.g B.j (broadcastInDim (SB n h) ![0, 1, 2, 4] H.bc),
    TRef.binary B.i B.j B.k (fun a b => concatenate (SA n h) 3 [⟨SB n h, a⟩, ⟨SB n h, b⟩] H.cat),
    TRef.reshape B.k B.y rfl H.join ]

/-- What each operation leaves at its result, read at the value's type. -/
theorem res_reshape {Tx Ty : BufTy} (x : TRef sig Tx) (y : TRef sig Ty) (he : Tx.elt = Ty.elt) (hn : Tx.shape.ShapeCasts Ty.shape)
    (V : Valuation τ sig (Elt F)) :
    y.ofBuf ((TRef.reshape (Val := Elt F) x y he hn).result V (Proc.devRef .tc y.ref))
      = fun i => he ▸ shapeCast Ty.shape (x.ofBuf (V (Proc.devRef .tc x.ref))) hn i := by
  obtain ⟨x, rfl, hx, hx'⟩ := x
  obtain ⟨y, rfl, hy, hy'⟩ := y
  exact reshape_result' he hn _ _ V

theorem res_unary {Tx Ty : BufTy} (x : TRef sig Tx) (y : TRef sig Ty) (f : Tx.Contents (Elt F) → Ty.Contents (Elt F))
    (V : Valuation τ sig (Elt F)) :
    y.ofBuf ((TRef.unary x y f).result V (Proc.devRef .tc y.ref)) = f (x.ofBuf (V (Proc.devRef .tc x.ref))) := by
  obtain ⟨x, rfl, hx, hx'⟩ := x
  obtain ⟨y, rfl, hy, hy'⟩ := y
  exact unary_result' f _ _ V

theorem res_binary {Ta Tb Ty : BufTy} (a : TRef sig Ta) (b : TRef sig Tb) (y : TRef sig Ty)
    (f : Ta.Contents (Elt F) → Tb.Contents (Elt F) → Ty.Contents (Elt F)) (V : Valuation τ sig (Elt F)) :
    y.ofBuf ((TRef.binary a b y f).result V (Proc.devRef .tc y.ref))
      = f (a.ofBuf (V (Proc.devRef .tc a.ref))) (b.ofBuf (V (Proc.devRef .tc b.ref))) := by
  obtain ⟨a, rfl, ha, ha'⟩ := a
  obtain ⟨b, rfl, hb, hb'⟩ := b
  obtain ⟨y, rfl, hy, hy'⟩ := y
  exact binary_result' f _ _ _ V

/-- A stage's last buffer is the stage's function of its first. -/
theorem stage_eq {n h : ℕ} (H : Fits n h) (B : Bufs n h) (hd : B.outs.Nodup) (V : Valuation τ sig (Elt F)) :
    B.y.ofBuf (after (stageOps H B) V (Proc.devRef .tc B.y.ref)) = stage n h H (B.x.ofBuf (V (Proc.devRef .tc B.x.ref))) := by
  simp only [List.nodup_cons, List.mem_cons, not_or, List.not_mem_nil, not_false_eq_true, and_true, List.nodup_nil, true_and] at hd
  obtain ⟨ha, hb, hc, hdd, he, hf, hg, hi, hj, hk⟩ := hd
  simp only [stageOps, after_cons, after_nil]
  repeat' first
    | rw [res_reshape] | rw [res_unary] | rw [res_binary]
    | rw [reshape_result_ne (h := by tauto)] | rw [unary_result_ne (h := by tauto)] | rw [binary_result_ne (h := by tauto)]
  rfl

/-- A stage touches TensorCore references only, each operation determines its result, and it writes its own buffers. -/
theorem stage_sub {n h : ℕ} (H : Fits n h) (B : Bufs n h) :
    (stageOps (F := F) H B).Forall fun op => op.bufs ⊆ tcRefs τ sig :=
  ⟨reshape_bufs_sub .., unary_bufs_sub .., reshape_bufs_sub .., unary_bufs_sub .., reshape_bufs_sub .., binary_bufs_sub ..,
    binary_bufs_sub .., unary_bufs_sub .., unary_bufs_sub .., binary_bufs_sub .., reshape_bufs_sub ..⟩

theorem stage_fresh {n h : ℕ} (H : Fits n h) (B : Bufs n h) : (stageOps (F := F) H B).Forall fun op => op.fresh = ∅ :=
  ⟨rfl, rfl, rfl, rfl, rfl, rfl, rfl, rfl, rfl, rfl, rfl⟩

theorem stage_keep {n h : ℕ} (H : Fits n h) (B : Bufs n h) (r : Ref sig .tc) (hr : r ∉ B.outs) (V : Valuation τ sig (Elt F)) :
    after (stageOps H B) V (Proc.devRef .tc r) = V (Proc.devRef .tc r) :=
  after_unwritten B.outs rfl hr V

/-- The fifteen stages' buffers. -/
abbrev B0 : Bufs 16384 1 := ⟨.of main_v3, .of main_v4, .of main_v5, .of main_v6, .of main_v7, .of main_v8, .of main_v9, .of main_v10, .of main_v11, .of main_v12, .of main_v13, .of main_v14⟩
abbrev B1 : Bufs 8192 2 := ⟨.of main_v14, .of main_v15, .of main_v16, .of main_v17, .of main_v18, .of main_v19, .of main_v20, .of main_v21, .of main_v22, .of main_v23, .of main_v24, .of main_v25⟩
abbrev B2 : Bufs 4096 4 := ⟨.of main_v25, .of main_v26, .of main_v27, .of main_v28, .of main_v29, .of main_v30, .of main_v31, .of main_v32, .of main_v33, .of main_v34, .of main_v35, .of main_v36⟩
abbrev B3 : Bufs 2048 8 := ⟨.of main_v36, .of main_v37, .of main_v38, .of main_v39, .of main_v40, .of main_v41, .of main_v42, .of main_v43, .of main_v44, .of main_v45, .of main_v46, .of main_v47⟩
abbrev B4 : Bufs 1024 16 := ⟨.of main_v47, .of main_v48, .of main_v49, .of main_v50, .of main_v51, .of main_v52, .of main_v53, .of main_v54, .of main_v55, .of main_v56, .of main_v57, .of main_v58⟩
abbrev B5 : Bufs 512 32 := ⟨.of main_v58, .of main_v59, .of main_v60, .of main_v61, .of main_v62, .of main_v63, .of main_v64, .of main_v65, .of main_v66, .of main_v67, .of main_v68, .of main_v69⟩
abbrev B6 : Bufs 256 64 := ⟨.of main_v69, .of main_v70, .of main_v71, .of main_v72, .of main_v73, .of main_v74, .of main_v75, .of main_v76, .of main_v77, .of main_v78, .of main_v79, .of main_v80⟩
abbrev B7 : Bufs 128 128 := ⟨.of main_v80, .of main_v81, .of main_v82, .of main_v83, .of main_v84, .of main_v85, .of main_v86, .of main_v87, .of main_v88, .of main_v89, .of main_v90, .of main_v91⟩
abbrev B8 : Bufs 64 256 := ⟨.of main_v91, .of main_v92, .of main_v93, .of main_v94, .of main_v95, .of main_v96, .of main_v97, .of main_v98, .of main_v99, .of main_v100, .of main_v101, .of main_v102⟩
abbrev B9 : Bufs 32 512 := ⟨.of main_v102, .of main_v103, .of main_v104, .of main_v105, .of main_v106, .of main_v107, .of main_v108, .of main_v109, .of main_v110, .of main_v111, .of main_v112, .of main_v113⟩
abbrev B10 : Bufs 16 1024 := ⟨.of main_v113, .of main_v114, .of main_v115, .of main_v116, .of main_v117, .of main_v118, .of main_v119, .of main_v120, .of main_v121, .of main_v122, .of main_v123, .of main_v124⟩
abbrev B11 : Bufs 8 2048 := ⟨.of main_v124, .of main_v125, .of main_v126, .of main_v127, .of main_v128, .of main_v129, .of main_v130, .of main_v131, .of main_v132, .of main_v133, .of main_v134, .of main_v135⟩
abbrev B12 : Bufs 4 4096 := ⟨.of main_v135, .of main_v136, .of main_v137, .of main_v138, .of main_v139, .of main_v140, .of main_v141, .of main_v142, .of main_v143, .of main_v144, .of main_v145, .of main_v146⟩
abbrev B13 : Bufs 2 8192 := ⟨.of main_v146, .of main_v147, .of main_v148, .of main_v149, .of main_v150, .of main_v151, .of main_v152, .of main_v153, .of main_v154, .of main_v155, .of main_v156, .of main_v157⟩
abbrev B14 : Bufs 1 16384 := ⟨.of main_v157, .of main_v158, .of main_v159, .of main_v160, .of main_v161, .of main_v162, .of main_v163, .of main_v164, .of main_v165, .of main_v166, .of main_v167, .of main_v168⟩

/-- Their shapes fit. -/
theorem fits0 : Fits 16384 1 := ⟨by decide, by decide, by decide, by decide, by decide, by decide, by decide⟩
theorem fits1 : Fits 8192 2 := ⟨by decide, by decide, by decide, by decide, by decide, by decide, by decide⟩
theorem fits2 : Fits 4096 4 := ⟨by decide, by decide, by decide, by decide, by decide, by decide, by decide⟩
theorem fits3 : Fits 2048 8 := ⟨by decide, by decide, by decide, by decide, by decide, by decide, by decide⟩
theorem fits4 : Fits 1024 16 := ⟨by decide, by decide, by decide, by decide, by decide, by decide, by decide⟩
theorem fits5 : Fits 512 32 := ⟨by decide, by decide, by decide, by decide, by decide, by decide, by decide⟩
theorem fits6 : Fits 256 64 := ⟨by decide, by decide, by decide, by decide, by decide, by decide, by decide⟩
theorem fits7 : Fits 128 128 := ⟨by decide, by decide, by decide, by decide, by decide, by decide, by decide⟩
theorem fits8 : Fits 64 256 := ⟨by decide, by decide, by decide, by decide, by decide, by decide, by decide⟩
theorem fits9 : Fits 32 512 := ⟨by decide, by decide, by decide, by decide, by decide, by decide, by decide⟩
theorem fits10 : Fits 16 1024 := ⟨by decide, by decide, by decide, by decide, by decide, by decide, by decide⟩
theorem fits11 : Fits 8 2048 := ⟨by decide, by decide, by decide, by decide, by decide, by decide, by decide⟩
theorem fits12 : Fits 4 4096 := ⟨by decide, by decide, by decide, by decide, by decide, by decide, by decide⟩
theorem fits13 : Fits 2 8192 := ⟨by decide, by decide, by decide, by decide, by decide, by decide, by decide⟩
theorem fits14 : Fits 1 16384 := ⟨by decide, by decide, by decide, by decide, by decide, by decide, by decide⟩

/-- The operations before the stages, -/
abbrev pre : List (HloOp τ sig (Elt F)) :=
  [ unary main_arg0 main_v0 ((extf .f32 · bitsLt_bf16_f32) : (⟨S3x640x32768, .bf16⟩ : BufTy).Contents (Elt F) → (⟨S3x640x32768, .f32⟩ : BufTy).Contents (Elt F)),
    unary main_arg1 main_v1 (broadcastInDim S1x1x32768 ![2] bcast_S32768_S1x1x32768_2 : (⟨S32768, .f32⟩ : BufTy).Contents (Elt F) → (⟨S1x1x32768, .f32⟩ : BufTy).Contents (Elt F)),
    unary main_v1 main_v2 (broadcastInDim S3x640x32768 ![0, 1, 2] bcast_S1x1x32768_S3x640x32768_0_1_2 : (⟨S1x1x32768, .f32⟩ : BufTy).Contents (Elt F) → (⟨S3x640x32768, .f32⟩ : BufTy).Contents (Elt F)),
    binary main_v0 main_v2 main_v3 (mulf : (⟨S3x640x32768, .f32⟩ : BufTy).Contents (Elt F) → (⟨S3x640x32768, .f32⟩ : BufTy).Contents (Elt F) → (⟨S3x640x32768, .f32⟩ : BufTy).Contents (Elt F)) ]

/-- the stages, -/
abbrev mids : List (List (HloOp τ sig (Elt F))) :=
  [ stageOps fits0 B0,
    stageOps fits1 B1,
    stageOps fits2 B2,
    stageOps fits3 B3,
    stageOps fits4 B4,
    stageOps fits5 B5,
    stageOps fits6 B6,
    stageOps fits7 B7,
    stageOps fits8 B8,
    stageOps fits9 B9,
    stageOps fits10 B10,
    stageOps fits11 B11,
    stageOps fits12 B12,
    stageOps fits13 B13,
    stageOps fits14 B14 ]

/-- and after them. -/
abbrev post : List (HloOp τ sig (Elt F)) :=
  [ nullary main_cst (constant S_ .f32 0x3BB504F3#32),
    unary main_cst main_v169 (broadcastInDim S3x640x32768 ![] bcast_S_S3x640x32768 : (⟨S_, .f32⟩ : BufTy).Contents (Elt F) → (⟨S3x640x32768, .f32⟩ : BufTy).Contents (Elt F)),
    binary main_v168 main_v169 main_v170 (mulf : (⟨S3x640x32768, .f32⟩ : BufTy).Contents (Elt F) → (⟨S3x640x32768, .f32⟩ : BufTy).Contents (Elt F) → (⟨S3x640x32768, .f32⟩ : BufTy).Contents (Elt F)),
    reshape main_v170 main_v171 (rfl : (.f32 : EltTy) = .f32) shapeCasts_S3x640x32768_S3x640x256x128,
    unary main_v171 main_v172 (Host.absf : (⟨S3x640x256x128, .f32⟩ : BufTy).Contents (Elt F) → (⟨S3x640x256x128, .f32⟩ : BufTy).Contents (Elt F)),
    nullary main_cst_0 (constant S_ .f32 0xFF800000#32),
    binary main_v172 main_cst_0 main_v173 ((fun x v => Host.reduce FloatOps.maximumf x v reducesTo_S3x640x256x128_S3x640x256_d3 h_S_) : (⟨S3x640x256x128, .f32⟩ : BufTy).Contents (Elt F) → (⟨S_, .f32⟩ : BufTy).Contents (Elt F) → (⟨S3x640x256, .f32⟩ : BufTy).Contents (Elt F)),
    nullary main_cst_1 (constant S_ .f32 0x00000000#32),
    unary main_cst_1 main_v174 (broadcastInDim S3x640x256 ![] bcast_S_S3x640x256 : (⟨S_, .f32⟩ : BufTy).Contents (Elt F) → (⟨S3x640x256, .f32⟩ : BufTy).Contents (Elt F)),
    binary main_v173 main_v174 main_v175 (cmpf .oeq : (⟨S3x640x256, .f32⟩ : BufTy).Contents (Elt F) → (⟨S3x640x256, .f32⟩ : BufTy).Contents (Elt F) → (⟨S3x640x256, .i1⟩ : BufTy).Contents (Elt F)),
    nullary main_cst_2 (constant S_ .f32 0x40E00000#32),
    unary main_cst_2 main_v176 (broadcastInDim S3x640x256 ![] bcast_S_S3x640x256 : (⟨S_, .f32⟩ : BufTy).Contents (Elt F) → (⟨S3x640x256, .f32⟩ : BufTy).Contents (Elt F)),
    binary main_v173 main_v176 main_v177 (Host.divf : (⟨S3x640x256, .f32⟩ : BufTy).Contents (Elt F) → (⟨S3x640x256, .f32⟩ : BufTy).Contents (Elt F) → (⟨S3x640x256, .f32⟩ : BufTy).Contents (Elt F)),
    nullary main_cst_3 (constant S_ .f32 0x3F800000#32),
    TRef.unary (.of main_cst_3 : TRef sig ⟨S_, .f32⟩) main_call0.v0 (broadcastInDim S3x640x256 ![] bcast_S_S3x640x256),
    TRef.ternary (.of main_v175 : TRef sig ⟨S3x640x256, .i1⟩) main_call0.v0 (.of main_v177 : TRef sig ⟨S3x640x256, .f32⟩) main_call0.v1 select,
    unary main_v178 main_v179 (broadcastInDim S3x640x256x1 ![0, 1, 2] bcast_S3x640x256_S3x640x256x1_0_1_2 : (⟨S3x640x256, .f32⟩ : BufTy).Contents (Elt F) → (⟨S3x640x256x1, .f32⟩ : BufTy).Contents (Elt F)),
    unary main_v179 main_v180 (broadcastInDim S3x640x256x128 ![0, 1, 2, 3] bcast_S3x640x256x1_S3x640x256x128_0_1_2_3 : (⟨S3x640x256x1, .f32⟩ : BufTy).Contents (Elt F) → (⟨S3x640x256x128, .f32⟩ : BufTy).Contents (Elt F)),
    binary main_v171 main_v180 main_v181 (Host.divf : (⟨S3x640x256x128, .f32⟩ : BufTy).Contents (Elt F) → (⟨S3x640x256x128, .f32⟩ : BufTy).Contents (Elt F) → (⟨S3x640x256x128, .f32⟩ : BufTy).Contents (Elt F)),
    TRef.unary (.of main_v181 : TRef sig ⟨S3x640x256x128, .f32⟩) main_call1.v0 Host.roundeven,
    nullary main_cst_4 (constant S_ .f32 0xC0E00000#32),
    nullary main_cst_5 (constant S_ .f32 0x40E00000#32),
    TRef.unary (.of main_cst_4 : TRef sig ⟨S_, .f32⟩) main_call2.v0 id,
    TRef.unary main_call2.v0 main_call2.v1 (broadcastInDim S3x640x256x128 ![] bcast_S_S3x640x256x128),
    TRef.binary main_call2.v1 (.of main_v182 : TRef sig ⟨S3x640x256x128, .f32⟩) main_call2.v2 maximumf,
    TRef.unary (.of main_cst_5 : TRef sig ⟨S_, .f32⟩) main_call2.v3 id,
    TRef.unary main_call2.v3 main_call2.v4 (broadcastInDim S3x640x256x128 ![] bcast_S_S3x640x256x128),
    TRef.binary main_call2.v4 main_call2.v2 main_call2.v5 minimumf,
    unary main_v183 main_v184 (fptosi 32 : (⟨S3x640x256x128, .f32⟩ : BufTy).Contents (Elt F) → (⟨S3x640x256x128, .i32⟩ : BufTy).Contents (Elt F)),
    reshape main_v184 main_v185 (rfl : (.i32 : EltTy) = .i32) shapeCasts_S3x640x256x128_S3x640x32768,
    nullary main_c (constantI S_ 32 15#32),
    unary main_c main_v186 (broadcastInDim S3x640x32768 ![] bcast_S_S3x640x32768 : (⟨S_, .i32⟩ : BufTy).Contents (Elt F) → (⟨S3x640x32768, .i32⟩ : BufTy).Contents (Elt F)),
    binary main_v185 main_v186 main_v187 (andi : (⟨S3x640x32768, .i32⟩ : BufTy).Contents (Elt F) → (⟨S3x640x32768, .i32⟩ : BufTy).Contents (Elt F) → (⟨S3x640x32768, .i32⟩ : BufTy).Contents (Elt F)),
    reshape main_v187 main_v188 (rfl : (.i32 : EltTy) = .i32) shapeCasts_S3x640x32768_S3x640x16384x2,
    unary main_v188 main_v189 ((extractStridedSlice S3x640x16384x1 ![0, 0, 0, 0] · slices_S3x640x16384x2_S3x640x16384x1_0_0_0_0) : (⟨S3x640x16384x2, .i32⟩ : BufTy).Contents (Elt F) → (⟨S3x640x16384x1, .i32⟩ : BufTy).Contents (Elt F)),
    reshape main_v189 main_v190 (rfl : (.i32 : EltTy) = .i32) shapeCasts_S3x640x16384x1_S3x640x16384,
    unary main_v188 main_v191 ((extractStridedSlice S3x640x16384x1 ![0, 0, 0, 1] · slices_S3x640x16384x2_S3x640x16384x1_0_0_0_1) : (⟨S3x640x16384x2, .i32⟩ : BufTy).Contents (Elt F) → (⟨S3x640x16384x1, .i32⟩ : BufTy).Contents (Elt F)),
    reshape main_v191 main_v192 (rfl : (.i32 : EltTy) = .i32) shapeCasts_S3x640x16384x1_S3x640x16384,
    nullary main_c_6 (constantI S_ 32 4#32),
    unary main_c_6 main_v193 (broadcastInDim S3x640x16384 ![] bcast_S_S3x640x16384 : (⟨S_, .i32⟩ : BufTy).Contents (Elt F) → (⟨S3x640x16384, .i32⟩ : BufTy).Contents (Elt F)),
    binary main_v192 main_v193 main_v194 (Host.shli : (⟨S3x640x16384, .i32⟩ : BufTy).Contents (Elt F) → (⟨S3x640x16384, .i32⟩ : BufTy).Contents (Elt F) → (⟨S3x640x16384, .i32⟩ : BufTy).Contents (Elt F)),
    binary main_v190 main_v194 main_v195 (ori : (⟨S3x640x16384, .i32⟩ : BufTy).Contents (Elt F) → (⟨S3x640x16384, .i32⟩ : BufTy).Contents (Elt F) → (⟨S3x640x16384, .i32⟩ : BufTy).Contents (Elt F)),
    unary main_v195 main_v196 ((trunci 8 · natLt_8_32) : (⟨S3x640x16384, .i32⟩ : BufTy).Contents (Elt F) → (⟨S3x640x16384, .i8⟩ : BufTy).Contents (Elt F)) ]

/-- @main's operations, in order. -/
abbrev ops : List (HloOp τ sig (Elt F)) := pre ++ (mids.flatten ++ post)

/-- @main is that straight line. -/
theorem main_eq (c : Dev nD) : main (F := F) c = seq ops := by
  sl_kernel_rfl

theorem scopedRefs_eq : (Finset.univ.filter fun b : Ref sig .tc => b.isScoped) = ∅ := by decide
theorem scopedSems_eq : (Finset.univ.filter fun sm : SemLoc sig => sm.isScoped .tc) = ∅ := by decide

theorem pre_sub : (pre (F := F)).Forall fun op => op.bufs ⊆ tcRefs τ sig :=
  ⟨unary_bufs_sub .., unary_bufs_sub .., unary_bufs_sub .., binary_bufs_sub ..⟩

theorem post_sub : (post (F := F)).Forall fun op => op.bufs ⊆ tcRefs τ sig :=
  ⟨nullary_bufs_sub .., unary_bufs_sub .., binary_bufs_sub .., reshape_bufs_sub .., unary_bufs_sub .., nullary_bufs_sub .., binary_bufs_sub .., nullary_bufs_sub .., unary_bufs_sub .., binary_bufs_sub .., nullary_bufs_sub .., unary_bufs_sub .., binary_bufs_sub .., nullary_bufs_sub .., unary_bufs_sub .., ternary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., reshape_bufs_sub .., nullary_bufs_sub .., unary_bufs_sub .., binary_bufs_sub .., reshape_bufs_sub .., unary_bufs_sub .., reshape_bufs_sub .., unary_bufs_sub .., reshape_bufs_sub .., nullary_bufs_sub .., unary_bufs_sub .., binary_bufs_sub .., binary_bufs_sub .., unary_bufs_sub ..⟩

theorem mids_sub : (mids (F := F)).Forall fun l => l.Forall fun op => op.bufs ⊆ tcRefs τ sig :=
  ⟨stage_sub fits0 B0, stage_sub fits1 B1, stage_sub fits2 B2, stage_sub fits3 B3, stage_sub fits4 B4, stage_sub fits5 B5, stage_sub fits6 B6, stage_sub fits7 B7, stage_sub fits8 B8, stage_sub fits9 B9, stage_sub fits10 B10, stage_sub fits11 B11, stage_sub fits12 B12, stage_sub fits13 B13, stage_sub fits14 B14⟩

theorem mids_fresh : (mids (F := F)).Forall fun l => l.Forall fun op => op.fresh = ∅ :=
  ⟨stage_fresh fits0 B0, stage_fresh fits1 B1, stage_fresh fits2 B2, stage_fresh fits3 B3, stage_fresh fits4 B4, stage_fresh fits5 B5, stage_fresh fits6 B6, stage_fresh fits7 B7, stage_fresh fits8 B8, stage_fresh fits9 B9, stage_fresh fits10 B10, stage_fresh fits11 B11, stage_fresh fits12 B12, stage_fresh fits13 B13, stage_fresh fits14 B14⟩

theorem ops_sub : (ops (F := F)).Forall fun op => op.bufs ⊆ tcRefs τ sig := by
  rw [List.forall_iff_forall_mem]
  intro op h
  rcases List.mem_append.mp h with h | h
  · exact List.forall_iff_forall_mem.mp pre_sub op h
  rcases List.mem_append.mp h with h | h
  · obtain ⟨l, hl, h⟩ := List.mem_flatten.mp h
    exact List.forall_iff_forall_mem.mp (List.forall_iff_forall_mem.mp mids_sub l hl) op h
  · exact List.forall_iff_forall_mem.mp post_sub op h

theorem ops_fresh (op : HloOp τ sig (Elt F)) (h : op ∈ ops (F := F)) : op.fresh = ∅ := by
  rcases List.mem_append.mp h with h | h
  · exact List.forall_iff_forall_mem.mp (forall_fresh_of_map (ops := pre (F := F)) rfl) op h
  rcases List.mem_append.mp h with h | h
  · obtain ⟨l, hl, h⟩ := List.mem_flatten.mp h
    exact List.forall_iff_forall_mem.mp (List.forall_iff_forall_mem.mp mids_fresh l hl) op h
  · exact List.forall_iff_forall_mem.mp (forall_fresh_of_map (ops := post (F := F)) rfl) op h

/-- From any memory with zero counters every execution of @main ends, each buffer at the operations' fold over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

theorem after_app (l₁ l₂ : List (HloOp τ sig (Elt F))) (V : Valuation τ sig (Elt F)) : after (l₁ ++ l₂) V = after l₂ (after l₁ V) := by
  induction l₁ generalizing V with
  | nil => rfl
  | cons op l ih => exact ih _

/-- A buffer no stage writes is kept by all of them. -/
theorem mids_keep (r : Ref sig .tc) (hr : ∀ l ∈ mids (F := F), ∀ V : Valuation τ sig (Elt F),
    after l V (Proc.devRef .tc r) = V (Proc.devRef .tc r)) (V : Valuation τ sig (Elt F)) :
    after (mids (F := F)).flatten V (Proc.devRef .tc r) = V (Proc.devRef .tc r) := by
  revert V
  generalize mids (F := F) = L at hr
  induction L with
  | nil => exact fun V => rfl
  | cons l L ih =>
    intro V
    rw [List.flatten_cons, after_app, ih fun l hl => hr l (List.mem_cons_of_mem _ hl)]
    exact hr l List.mem_cons_self V

theorem keep (r : Ref sig .tc) (hr : r = main_arg0 ∨ r = main_arg1) (V : Valuation τ sig (Elt F)) :
    after (ops (F := F)) V (Proc.devRef .tc r) = V (Proc.devRef .tc r) := by
  have hm : ∀ l ∈ mids (F := F), ∀ V : Valuation τ sig (Elt F), after l V (Proc.devRef .tc r) = V (Proc.devRef .tc r) := by
    rw [← List.forall_iff_forall_mem]
    rcases hr with rfl | rfl <;>
      exact ⟨stage_keep fits0 B0 _ (by decide), stage_keep fits1 B1 _ (by decide), stage_keep fits2 B2 _ (by decide), stage_keep fits3 B3 _ (by decide), stage_keep fits4 B4 _ (by decide), stage_keep fits5 B5 _ (by decide), stage_keep fits6 B6 _ (by decide), stage_keep fits7 B7 _ (by decide), stage_keep fits8 B8 _ (by decide), stage_keep fits9 B9 _ (by decide), stage_keep fits10 B10 _ (by decide), stage_keep fits11 B11 _ (by decide), stage_keep fits12 B12 _ (by decide), stage_keep fits13 B13 _ (by decide), stage_keep fits14 B14 _ (by decide)⟩
  unfold ops
  rw [after_app, after_app]
  rcases hr with rfl | rfl
  · refine Eq.trans (b := after (mids (F := F)).flatten (after pre V) (Proc.devRef .tc main_arg0)) ?_ ((mids_keep _ hm _).trans ?_)
    · generalize after (mids (F := F)).flatten (after pre V) = W; after_reads_simp
    · after_reads_simp
  · refine Eq.trans (b := after (mids (F := F)).flatten (after pre V) (Proc.devRef .tc main_arg1)) ?_ ((mids_keep _ hm _).trans ?_)
    · generalize after (mids (F := F)).flatten (after pre V) = W; after_reads_simp
    · after_reads_simp

/-- The fifteen stages of a row, in order. -/
def chain (v : FVec F S3x640x32768 .f32) : FVec F S3x640x32768 .f32 :=
  (stage 1 16384 fits14
    (stage 2 8192 fits13
    (stage 4 4096 fits12
    (stage 8 2048 fits11
    (stage 16 1024 fits10
    (stage 32 512 fits9
    (stage 64 256 fits8
    (stage 128 128 fits7
    (stage 256 64 fits6
    (stage 512 32 fits5
    (stage 1024 16 fits4
    (stage 2048 8 fits3
    (stage 4096 4 fits2
    (stage 8192 2 fits1
    (stage 16384 1 fits0
    v)))))))))))))))

theorem mids_eq (V : Valuation τ sig (Elt F)) :
    after (mids (F := F)).flatten V (Proc.devRef .tc main_v168) = chain (V (Proc.devRef .tc main_v3)) := by
  simp only [List.flatten_cons, List.flatten_nil, List.append_nil, after_app]
  exact (stage_eq fits14 B14 (by decide) _).trans (congrArg (stage _ _ fits14) (
    (stage_eq fits13 B13 (by decide) _).trans (congrArg (stage _ _ fits13) (
    (stage_eq fits12 B12 (by decide) _).trans (congrArg (stage _ _ fits12) (
    (stage_eq fits11 B11 (by decide) _).trans (congrArg (stage _ _ fits11) (
    (stage_eq fits10 B10 (by decide) _).trans (congrArg (stage _ _ fits10) (
    (stage_eq fits9 B9 (by decide) _).trans (congrArg (stage _ _ fits9) (
    (stage_eq fits8 B8 (by decide) _).trans (congrArg (stage _ _ fits8) (
    (stage_eq fits7 B7 (by decide) _).trans (congrArg (stage _ _ fits7) (
    (stage_eq fits6 B6 (by decide) _).trans (congrArg (stage _ _ fits6) (
    (stage_eq fits5 B5 (by decide) _).trans (congrArg (stage _ _ fits5) (
    (stage_eq fits4 B4 (by decide) _).trans (congrArg (stage _ _ fits4) (
    (stage_eq fits3 B3 (by decide) _).trans (congrArg (stage _ _ fits3) (
    (stage_eq fits2 B2 (by decide) _).trans (congrArg (stage _ _ fits2) (
    (stage_eq fits1 B1 (by decide) _).trans (congrArg (stage _ _ fits1) (
    (stage_eq fits0 B0 (by decide) V)))))))))))))))))))))))))))))

/-- The weights times the signs. -/
def signed (w : FVec F S3x640x32768 .bf16) (s : FVec F S32768 .f32) : FVec F S3x640x32768 .f32 :=
  mulf (extf .f32 w bitsLt_bf16_f32)
    (broadcastInDim S3x640x32768 ![0, 1, 2] bcast_S1x1x32768_S3x640x32768_0_1_2 (broadcastInDim S1x1x32768 ![2] bcast_S32768_S1x1x32768_2 s))

/-- The transformed rows scaled, in groups; -/
def grouped (v : FVec F S3x640x32768 .f32) : FVec F S3x640x256x128 .f32 :=
  shapeCast S3x640x256x128 (mulf v (broadcastInDim S3x640x32768 ![] bcast_S_S3x640x32768 (constant S_ .f32 0x3BB504F3#32)))
    shapeCasts_S3x640x32768_S3x640x256x128

/-- the largest magnitude of each group; -/
def top (x : FVec F S3x640x256x128 .f32) : FVec F S3x640x256 .f32 :=
  Host.reduce FloatOps.maximumf (Host.absf x) (constant S_ .f32 0xFF800000#32) reducesTo_S3x640x256x128_S3x640x256_d3 h_S_

/-- its scale: one seventh of that, or one where it is zero; -/
def scales (x : FVec F S3x640x256x128 .f32) : FVec F S3x640x256 .f32 :=
  select (cmpf .oeq (top x) (broadcastInDim S3x640x256 ![] bcast_S_S3x640x256 (constant S_ .f32 0x00000000#32)))
    (broadcastInDim S3x640x256 ![] bcast_S_S3x640x256 (constant S_ .f32 0x3F800000#32))
    (Host.divf (top x) (broadcastInDim S3x640x256 ![] bcast_S_S3x640x256 (constant S_ .f32 0x40E00000#32)))

/-- the four-bit integers; -/
def ints (x : FVec F S3x640x256x128 .f32) : IVec S3x640x32768 32 :=
  shapeCast S3x640x32768 (fptosi 32 (minimumf (broadcastInDim S3x640x256x128 ![] bcast_S_S3x640x256x128 (constant S_ .f32 0x40E00000#32))
    (maximumf (broadcastInDim S3x640x256x128 ![] bcast_S_S3x640x256x128 (constant S_ .f32 0xC0E00000#32))
      (Host.roundeven (Host.divf x (broadcastInDim S3x640x256x128 ![0, 1, 2, 3] bcast_S3x640x256x1_S3x640x256x128_0_1_2_3
        (broadcastInDim S3x640x256x1 ![0, 1, 2] bcast_S3x640x256_S3x640x256x1_0_1_2 (scales x))))))))
    shapeCasts_S3x640x256x128_S3x640x32768

/-- their low four bits, in pairs; -/
def pairs (x : FVec F S3x640x256x128 .f32) : IVec S3x640x16384x2 32 :=
  shapeCast S3x640x16384x2 (andi (ints x) (broadcastInDim S3x640x32768 ![] bcast_S_S3x640x32768 (constantI S_ 32 15#32)))
    shapeCasts_S3x640x32768_S3x640x16384x2

/-- two to a byte. -/
def codes (x : FVec F S3x640x256x128 .f32) : IVec S3x640x16384 8 :=
  trunci 8 (ori
    (shapeCast S3x640x16384 (extractStridedSlice S3x640x16384x1 ![0, 0, 0, 0] (pairs x) slices_S3x640x16384x2_S3x640x16384x1_0_0_0_0) shapeCasts_S3x640x16384x1_S3x640x16384)
    (Host.shli
      (shapeCast S3x640x16384 (extractStridedSlice S3x640x16384x1 ![0, 0, 0, 1] (pairs x) slices_S3x640x16384x2_S3x640x16384x1_0_0_0_1) shapeCasts_S3x640x16384x1_S3x640x16384)
      (broadcastInDim S3x640x16384 ![] bcast_S_S3x640x16384 (constantI S_ 32 4#32)))) natLt_8_32

theorem post_scales (W : Valuation τ sig (Elt F)) :
    after (post (F := F)) W (Proc.devRef .tc main_v178) = scales (grouped (W (Proc.devRef .tc main_v168))) := by
  after_reads_simp
  rfl

theorem post_codes (W : Valuation τ sig (Elt F)) :
    after (post (F := F)) W (Proc.devRef .tc main_v196) = codes (grouped (W (Proc.devRef .tc main_v168))) := by
  after_reads_simp
  rfl

theorem pre_signed (V : Valuation τ sig (Elt F)) :
    after (pre (F := F)) V (Proc.devRef .tc main_v3) = signed (V (Proc.devRef .tc main_arg0)) (V (Proc.devRef .tc main_arg1)) := by
  after_reads_simp
  rfl

theorem ops_scales (V : Valuation τ sig (Elt F)) :
    after (ops (F := F)) V (Proc.devRef .tc main_v178)
      = scales (grouped (chain (signed (V (Proc.devRef .tc main_arg0)) (V (Proc.devRef .tc main_arg1))))) := by
  unfold ops
  rw [after_app, after_app, post_scales, mids_eq, pre_signed]

theorem ops_codes (V : Valuation τ sig (Elt F)) :
    after (ops (F := F)) V (Proc.devRef .tc main_v196)
      = codes (grouped (chain (signed (V (Proc.devRef .tc main_arg0)) (V (Proc.devRef .tc main_arg1))))) := by
  unfold ops
  rw [after_app, after_app, post_codes, mids_eq, pre_signed]

/-- The frame of the reference: its arguments unchanged, its counters at zero. -/
theorem frame (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun r h => ⟨fun c => ⟨(h c main_arg0).trans (keep main_arg0 (.inl rfl) _),
      (h c main_arg1).trans (keep main_arg1 (.inr rfl) _)⟩, sem_eq_zero_of_no_sems (by decide) r.2⟩)
    (run_main m ρ)

end Cert.ReferenceIdeal.Line

end
-- ==== Proof.Alg.lean ====
/- The arithmetic both programs share: butterflies over the reals with one absorbing infinity, and the scale and the
   four-bit integer of a transformed row. -/
module

public import Idealize.ShloMosaic.PureOps.Ideal
public import Idealize.ShloMosaic.PureOps.Ideal.Laws
public import Idealize.ShloMosaic.Lib.IdealHost

@[expose] public section

noncomputable section

namespace Cert.Alg

open Idealize.ShloMosaic

/-- The reals with one infinity that absorbs. -/
abbrev Q : Type := WithTop ℝ

/-- An extended real with its two infinities made one. -/
def q : EReal → Q
  | ⊥ => ⊤
  | ⊤ => ⊤
  | (r : ℝ) => (r : Q)

@[simp] theorem q_bot : q ⊥ = ⊤ := rfl
@[simp] theorem q_top : q ⊤ = ⊤ := rfl
@[simp] theorem q_coe (r : ℝ) : q (r : EReal) = (r : Q) := rfl
@[simp] theorem q_zero : q 0 = 0 := rfl

/-- Negation, the infinity fixed. -/
def ng (a : Q) : Q := a.map (fun r : ℝ => -r)

@[simp] theorem ng_top : ng ⊤ = ⊤ := rfl
@[simp] theorem ng_coe (r : ℝ) : ng (r : Q) = ((-r : ℝ) : Q) := rfl
@[simp] theorem ng_zero : ng 0 = 0 := by
  show ng ((0 : ℝ) : Q) = ((0 : ℝ) : Q)
  rw [ng_coe, neg_zero]

theorem ng_add (a b : Q) : ng (a + b) = ng a + ng b := by
  induction a using WithTop.recTopCoe with
  | top => simp
  | coe a =>
    induction b using WithTop.recTopCoe with
    | top => simp
    | coe b => rw [← WithTop.coe_add, ng_coe, ng_coe, ng_coe, ← WithTop.coe_add, neg_add]

theorem ng_ng (a : Q) : ng (ng a) = a := by
  induction a using WithTop.recTopCoe with
  | top => rfl
  | coe a => rw [ng_coe, ng_coe, neg_neg]

theorem q_add (x y : EReal) : q (x + y) = q x + q y := by
  induction x with
  | bot => rw [EReal.bot_add, q_bot, WithTop.top_add]
  | top =>
    induction y with
    | bot => rw [EReal.add_bot, q_bot, q_top, WithTop.top_add]
    | top => rfl
    | coe y => rw [EReal.top_add_coe, q_top, WithTop.top_add]
  | coe x =>
    induction y with
    | bot => rw [EReal.add_bot, q_bot, WithTop.add_top]
    | top => rw [EReal.coe_add_top, q_top, WithTop.add_top]
    | coe y => rfl

theorem q_neg (x : EReal) : q (-x) = ng (q x) := by
  induction x with
  | bot => rfl
  | top => rfl
  | coe x => rw [← EReal.coe_neg]; rfl

theorem q_sub (x y : EReal) : q (x - y) = q x + ng (q y) := by rw [sub_eq_add_neg, q_add, q_neg]

theorem q_sum {ι : Type} (s : Finset ι) (f : ι → EReal) : q (∑ i ∈ s, f i) = ∑ i ∈ s, q (f i) := by
  classical
  induction s using Finset.induction_on with
  | empty => rfl
  | insert a s ha ih => rw [Finset.sum_insert ha, Finset.sum_insert ha, q_add, ih]

theorem ng_sum {ι : Type} (s : Finset ι) (f : ι → Q) : ng (∑ i ∈ s, f i) = ∑ i ∈ s, ng (f i) := by
  classical
  induction s using Finset.induction_on with
  | empty => exact ng_zero
  | insert a s ha ih => rw [Finset.sum_insert ha, Finset.sum_insert ha, ng_add, ih]

/-- A signed value. -/
def sm (b : Bool) (a : Q) : Q := if b then ng a else a

theorem sm_sum {ι : Type} (b : Bool) (s : Finset ι) (f : ι → Q) : sm b (∑ i ∈ s, f i) = ∑ i ∈ s, sm b (f i) := by
  cases b
  · rfl
  · exact ng_sum s f

theorem sm_xor (b c : Bool) (a : Q) : sm b (sm c a) = sm (Bool.xor b c) a := by
  cases b <;> cases c <;> simp [sm, ng_ng]

/-- One butterfly stage over a row. -/
def bf (h : ℕ) (v : ℕ → Q) (n : ℕ) : Q := if n / h % 2 = 0 then v n + v (n + h) else v (n - h) + ng (v n)

/-- The first `i` stages. -/
def bfs : ℕ → (ℕ → Q) → ℕ → Q
  | 0, v => v
  | i + 1, v => bf (2 ^ i) (bfs i v)

/-- The parity of the bits below `i` that `k` and `n` share. -/
def sg : ℕ → ℕ → ℕ → Bool
  | 0, _, _ => false
  | i + 1, k, n => Bool.xor (sg i k n) (k.testBit i && n.testBit i)

theorem sg_congr (i : ℕ) {k k' n n' : ℕ} (hk : ∀ j < i, k.testBit j = k'.testBit j) (hn : ∀ j < i, n.testBit j = n'.testBit j) :
    sg i k n = sg i k' n' := by
  induction i with
  | zero => rfl
  | succ i ih =>
    simp only [sg]
    rw [ih (fun j hj => hk j (by omega)) (fun j hj => hn j (by omega)), hk i (by omega), hn i (by omega)]

theorem testBit_add_pow (i j n : ℕ) (h : j < i) : (n + 2 ^ i).testBit j = n.testBit j := by
  rw [Nat.testBit_eq_decide_div_mod_eq, Nat.testBit_eq_decide_div_mod_eq]
  obtain ⟨d, rfl⟩ : ∃ d, i = j + 1 + d := ⟨i - j - 1, by omega⟩
  have : (n + 2 ^ (j + 1 + d)) / 2 ^ j = n / 2 ^ j + 2 * 2 ^ d := by
    rw [show 2 ^ (j + 1 + d) = 2 ^ j * (2 * 2 ^ d) by rw [pow_add, pow_add]; ring]
    exact Nat.add_mul_div_left _ _ (by positivity)
  rw [this, Nat.add_mul_mod_self_left]

theorem testBit_sub_pow (i j n : ℕ) (h : j < i) (hn : 2 ^ i ≤ n) : (n - 2 ^ i).testBit j = n.testBit j := by
  rw [← testBit_add_pow i j (n - 2 ^ i) h, Nat.sub_add_cancel hn]

/-- The first `i` stages are a signed sum over each run of length `2 ^ i`. -/
theorem bfs_sum (i : ℕ) (v : ℕ → Q) (n : ℕ) :
    bfs i v n = ∑ k ∈ Finset.range (2 ^ i), sm (sg i k n) (v (2 ^ i * (n / 2 ^ i) + k)) := by
  induction i generalizing n with
  | zero => simp [bfs, sg, sm]
  | succ i ih =>
    have hp : 0 < 2 ^ i := by positivity
    have e2 : 2 ^ (i + 1) = 2 ^ i + 2 ^ i := by rw [pow_succ]; ring
    have hdd : n / 2 ^ (i + 1) = n / 2 ^ i / 2 := by rw [Nat.div_div_eq_div_mul, pow_succ]
    rw [e2, Finset.sum_range_add, ← e2, hdd]
    simp only [bfs, bf]
    have hlo : ∀ k ∈ Finset.range (2 ^ i), sg (i + 1) k n = sg i k n := fun k hk => by
      rw [Finset.mem_range] at hk
      simp only [sg]
      rw [Nat.testBit_lt_two_pow hk, Bool.false_and, Bool.xor_false]
    have hhi : ∀ k ∈ Finset.range (2 ^ i), sg (i + 1) (2 ^ i + k) n = Bool.xor (sg i k n) (n.testBit i) := fun k hk => by
      rw [Finset.mem_range] at hk
      simp only [sg]
      rw [Nat.testBit_two_pow_add_eq, Nat.testBit_lt_two_pow hk, Bool.not_false, Bool.true_and]
      congr 1
      exact sg_congr i (fun j hj => by rw [Nat.add_comm]; exact testBit_add_pow i j k hj) fun _ _ => rfl
    have hbit : n.testBit i = decide (n / 2 ^ i % 2 = 1) := Nat.testBit_eq_decide_div_mod_eq
    by_cases h0 : n / 2 ^ i % 2 = 0
    · rw [if_pos h0, ih, ih]
      have hb : n.testBit i = false := by rw [hbit]; simp [h0]
      have hd1 : (n + 2 ^ i) / 2 ^ i = n / 2 ^ i + 1 := Nat.add_div_right _ hp
      have ed : n / 2 ^ i = 2 * (n / 2 ^ i / 2) := by omega
      congr 1
      · refine Finset.sum_congr rfl fun k hk => ?_
        rw [hlo k hk, pow_succ, mul_assoc, ← ed]
      · refine Finset.sum_congr rfl fun k hk => ?_
        rw [hhi k hk, hb, Bool.xor_false, hd1, sg_congr i (fun _ _ => rfl) (fun j hj => testBit_add_pow i j n hj), pow_succ, mul_assoc, ← ed]
        congr 2
        ring
    · rw [if_neg h0, ih, ih]
      have hb : n.testBit i = true := by rw [hbit]; simp; omega
      have hn : 2 ^ i ≤ n := by
        by_contra hc
        rw [Nat.div_eq_of_lt (by omega)] at h0
        exact h0 rfl
      have hd1 : (n - 2 ^ i) / 2 ^ i + 1 = n / 2 ^ i := by rw [← Nat.add_div_right _ hp, Nat.sub_add_cancel hn]
      have e1 : (n - 2 ^ i) / 2 ^ i = 2 * (n / 2 ^ i / 2) := by omega
      have ed : n / 2 ^ i = 2 * (n / 2 ^ i / 2) + 1 := by omega
      rw [ng_sum]
      congr 1
      · refine Finset.sum_congr rfl fun k hk => ?_
        rw [hlo k hk, e1, sg_congr i (fun _ _ => rfl) (fun j hj => testBit_sub_pow i j n hj hn), pow_succ, mul_assoc]
      · refine Finset.sum_congr rfl fun k hk => ?_
        rw [hhi k hk, hb, show ∀ a : Q, ng a = sm true a from fun _ => rfl, sm_xor, Bool.xor_comm, pow_succ]
        congr 2
        rw [ed]
        generalize n / 2 ^ i / 2 = t
        have : (2 * t + 1) / 2 = t := by omega
        rw [this]
        ring

/-! ## Scales and integers -/

/-- The magnitude. -/
def aq : Q → EReal
  | ⊤ => ⊤
  | (r : ℝ) => ((|r| : ℝ) : EReal)

@[simp] theorem aq_top : aq ⊤ = ⊤ := rfl
@[simp] theorem aq_coe (r : ℝ) : aq (r : Q) = ((|r| : ℝ) : EReal) := rfl

theorem aq_nonneg (a : Q) : 0 ≤ aq a := by
  induction a using WithTop.recTopCoe with
  | top => exact le_top
  | coe a => rw [aq_coe]; exact_mod_cast abs_nonneg a

theorem max_neg (x : EReal) : max x (-x) = aq (q x) := by
  induction x with
  | bot => simp
  | top => simp
  | coe x => rw [q_coe, aq_coe, ← EReal.coe_neg, ← EReal.coe_strictMono.monotone.map_max]; rfl

/-- The scaling constant: the float nearest `2 ^ (-15/2)`. -/
def cN : ℝ := 11863283 / 2 ^ 31

theorem cN_pos : 0 < cN := by unfold cN; positivity

theorem ofBits_cN : Ideal.ofBits .f32 0x3BB504F3#32 = (cN : EReal) := by
  unfold cN
  simp [Ideal.ofBits, Ideal.ieee, -EReal.coe_mul]; norm_num

theorem ofBits_seven : Ideal.ofBits .f32 0x40E00000#32 = ((7 : ℝ) : EReal) := by
  simp [Ideal.ofBits, Ideal.ieee, -EReal.coe_mul]; norm_num

theorem ofBits_neg_seven : Ideal.ofBits .f32 0xC0E00000#32 = ((-7 : ℝ) : EReal) := by
  simp [Ideal.ofBits, Ideal.ieee, -EReal.coe_mul, -EReal.coe_neg]; norm_num

theorem ofBits_eight : Ideal.ofBits .f32 0x41000000#32 = ((8 : ℝ) : EReal) := by
  simp [Ideal.ofBits, Ideal.ieee, -EReal.coe_mul]; norm_num

theorem ofBits_bot : Ideal.ofBits .f32 0xFF800000#32 = ⊥ := by
  simp [Ideal.ofBits, Ideal.ieee]

/-- The magnitude of a scaled value. -/
theorem max_neg_mul (x : EReal) : max (x * (cN : EReal)) (-(x * (cN : EReal))) = aq (q x) * (cN : EReal) := by
  rw [max_neg]
  induction x with
  | bot => rw [EReal.bot_mul_coe_of_pos cN_pos, q_bot, aq_top, EReal.top_mul_coe_of_pos cN_pos]
  | top => rw [EReal.top_mul_coe_of_pos cN_pos, q_top, aq_top, EReal.top_mul_coe_of_pos cN_pos]
  | coe x => rw [← EReal.coe_mul, q_coe, q_coe, aq_coe, aq_coe, ← EReal.coe_mul, abs_mul, abs_of_pos cN_pos]

theorem mul_cN_mono : Monotone fun x : EReal => x * (cN : EReal) := fun x y h => by
  exact mul_le_mul_of_nonneg_right h (by exact_mod_cast cN_pos.le)

/-- Scaling goes through a largest value. -/
theorem sup_mul {ι : Type} (s : Finset ι) (f : ι → EReal) : s.sup f * (cN : EReal) = s.sup fun i => f i * (cN : EReal) := by
  refine Finset.comp_sup_eq_sup_comp (fun x : EReal => x * (cN : EReal)) (fun x y => mul_cN_mono.map_sup x y) ?_
  exact EReal.bot_mul_coe_of_pos cN_pos

/-- The scale of a group whose largest magnitude, scaled, is `a`. -/
def sc (a : EReal) : EReal := if a = 0 then 1 else Ideal.div a ((7 : ℝ) : EReal)

theorem sc_pos {a : EReal} (h : 0 ≤ a) : 0 < sc a := by
  unfold sc
  split
  · exact zero_lt_one
  · rename_i h0
    rw [Ideal.div_coe (by norm_num)]
    exact EReal.mul_pos (lt_of_le_of_ne h (Ne.symm h0)) (by exact_mod_cast (by norm_num : (0 : ℝ) < 1 / 7))

theorem sc_top : sc ⊤ = ⊤ := by
  unfold sc
  rw [if_neg (by simp), Ideal.div_coe (by norm_num)]
  exact EReal.top_mul_coe_of_pos (by norm_num)

/-- The integer of a value at a scale: the nearest integer of the quotient, ties to even, clipped. -/
def kq (u : Q) (s : EReal) : ℤ := max (-7) (min 7 (Ideal.roundHalfEven (u.untopD 0 * cN * s.toReal⁻¹)))

theorem kq_bounds (u : Q) (s : EReal) : -7 ≤ kq u s ∧ kq u s ≤ 7 := by unfold kq; omega

/-- The quotient, as either program computes it. -/
theorem quot {y s : EReal} (hs : 0 < s) (hy : s ≠ ⊤ → q y ≠ ⊤) :
    (y * (cN : EReal)) * s⁻¹ = (((q y).untopD 0 * cN * s.toReal⁻¹ : ℝ) : EReal) := by
  by_cases h : s = ⊤
  · subst h
    rw [EReal.inv_top, mul_zero, EReal.toReal_top, inv_zero, mul_zero]; rfl
  · have hq := hy h
    lift s to ℝ using ⟨h, fun hb => by rw [hb] at hs; exact absurd hs (by simp)⟩
    induction y with
    | bot => exact absurd rfl hq
    | top => exact absurd rfl hq
    | coe y => rw [q_coe, WithTop.untopD_coe, EReal.toReal_coe, ← EReal.coe_inv, ← EReal.coe_mul, ← EReal.coe_mul]

theorem round_le_iff (r : ℝ) (n : ℤ) (h : r ≤ n) : Ideal.roundHalfEven r ≤ n := by
  unfold Ideal.roundHalfEven
  have h1 := Int.floor_le r
  have h2 := Int.lt_floor_add_one r
  have h3 : ⌊r⌋ ≤ n := by exact_mod_cast (h1.trans h)
  simp only
  rcases h3.lt_or_eq with h3 | h3
  · split
    · omega
    · split
      · omega
      · split <;> omega
  · have : r - ⌊r⌋ ≤ 0 := by rw [h3]; linarith
    rw [if_pos (by linarith)]
    omega

theorem le_round_iff (r : ℝ) (n : ℤ) (h : (n : ℝ) ≤ r) : n ≤ Ideal.roundHalfEven r := by
  unfold Ideal.roundHalfEven
  have h3 : n ≤ ⌊r⌋ := Int.le_floor.mpr h
  simp only
  split
  · omega
  · split
    · omega
    · split <;> omega

theorem round_int (n : ℤ) : Ideal.roundHalfEven (n : ℝ) = n :=
  le_antisymm (round_le_iff _ _ le_rfl) (le_round_iff _ _ le_rfl)

/-- Clipping to whole bounds and rounding commute. -/
theorem round_clip (r : ℝ) : Ideal.roundHalfEven (min 7 (max (-7) r)) = max (-7) (min 7 (Ideal.roundHalfEven r)) := by
  rcases le_total r (-7) with h | h
  · rw [max_eq_left h, min_eq_right (by norm_num)]
    have h1 := round_le_iff r (-7) (by exact_mod_cast h)
    have h2 := round_int (-7)
    push_cast at h2
    rw [h2]; omega
  rcases le_total r 7 with h' | h'
  · rw [max_eq_right h, min_eq_right h']
    have h1 := round_le_iff r 7 (by exact_mod_cast h')
    have h2 := le_round_iff r (-7) (by exact_mod_cast h)
    omega
  · rw [max_eq_right h, min_eq_left h']
    have h1 := le_round_iff r 7 (by exact_mod_cast h')
    have h2 := round_int 7
    push_cast at h2
    rw [h2]; omega

/-- The reference's integer. -/
theorem ref_int (t : ℝ) : min ((7 : ℝ) : EReal) (max ((-7 : ℝ) : EReal) (Ideal.liftRound Ideal.roundHalfEven (t : EReal)))
    = (((max (-7) (min 7 (Ideal.roundHalfEven t)) : ℤ) : ℝ) : EReal) := by
  show min ((7 : ℝ) : EReal) (max ((-7 : ℝ) : EReal) (((Ideal.roundHalfEven t : ℤ) : ℝ) : EReal)) = _
  rw [← EReal.coe_strictMono.monotone.map_max, ← EReal.coe_strictMono.monotone.map_min]
  congr 1
  have : min (7 : ℝ) (max (-7) ((Ideal.roundHalfEven t : ℤ) : ℝ)) = ((min 7 (max (-7) (Ideal.roundHalfEven t)) : ℤ) : ℝ) := by
    push_cast; rfl
  rw [this]
  congr 1
  omega

/-- The kernel's. -/
theorem ker_int (t : ℝ) : Ideal.liftRound Ideal.roundHalfEven (min ((7 : ℝ) : EReal) (max ((-7 : ℝ) : EReal) (t : EReal))) + ((8 : ℝ) : EReal)
    = (((max (-7) (min 7 (Ideal.roundHalfEven t)) + 8 : ℤ) : ℝ) : EReal) := by
  rw [← EReal.coe_strictMono.monotone.map_max, ← EReal.coe_strictMono.monotone.map_min]
  show ((Ideal.roundHalfEven (min 7 (max (-7) t)) : ℤ) : ℝ) + ((8 : ℝ) : EReal) = _
  rw [round_clip, ← EReal.coe_add]
  push_cast; rfl

/-- A whole number converts to itself. -/
theorem fptosi_int (n : ℤ) (h : -16 ≤ n ∧ n ≤ 16) : Ideal.fptosi 32 (((n : ℤ) : ℝ) : EReal) = BitVec.ofInt 32 n := by
  unfold Ideal.fptosi
  congr 1
  show max _ (min _ (if 0 ≤ ((n : ℤ) : ℝ) then ⌊((n : ℤ) : ℝ)⌋ else ⌈((n : ℤ) : ℝ)⌉)) = n
  rw [Int.floor_intCast, Int.ceil_intCast, ite_self]
  norm_num
  omega

/-- Two integers of four bits as one byte. -/
def byte (a b : ℤ) : BitVec 8 := BitVec.ofInt 8 (a + 8 + 16 * (b + 8)) ^^^ 0x88#8

set_option maxRecDepth 16384 in
theorem ref_byte_fin : ∀ a b : Fin 15,
    ((BitVec.ofInt 32 ((a.val : ℤ) - 7) &&& 15#32) ||| ((BitVec.ofInt 32 ((b.val : ℤ) - 7) &&& 15#32) <<< 4)).setWidth 8
      = byte ((a.val : ℤ) - 7) ((b.val : ℤ) - 7) := by decide

theorem fin15 (a : ℤ) (h : -7 ≤ a ∧ a ≤ 7) : ∃ k : Fin 15, a = (k.val : ℤ) - 7 := ⟨⟨(a + 7).toNat, by omega⟩, by simp; omega⟩

theorem ref_byte (a b : ℤ) (ha : -7 ≤ a ∧ a ≤ 7) (hb : -7 ≤ b ∧ b ≤ 7) :
    ((BitVec.ofInt 32 a &&& 15#32) ||| ((BitVec.ofInt 32 b &&& 15#32) <<< 4)).setWidth 8 = byte a b := by
  obtain ⟨a, rfl⟩ := fin15 a ha
  obtain ⟨b, rfl⟩ := fin15 b hb
  exact ref_byte_fin a b

/-! ## The transform -/

/-- All fifteen stages. -/
abbrev T (x : ℕ → Q) : ℕ → Q := bfs 15 x

/-- The largest magnitude of a group. -/
def gmax (y : ℕ → Q) (g : ℕ) : EReal := Finset.univ.sup fun l : Fin 128 => aq (y (g * 128 + l.val))

theorem gmax_nonneg (y : ℕ → Q) (g : ℕ) : 0 ≤ gmax y g :=
  (aq_nonneg _).trans (Finset.le_sup (f := fun l : Fin 128 => aq (y (g * 128 + l.val))) (Finset.mem_univ 0))

/-- The scale of a group. -/
def gsc (y : ℕ → Q) (g : ℕ) : EReal := sc (gmax y g * (cN : EReal))

theorem gsc_pos (y : ℕ → Q) (g : ℕ) : 0 < gsc y g :=
  sc_pos (mul_nonneg (gmax_nonneg y g) (by exact_mod_cast cN_pos.le))

theorem gsc_ne_top (y : ℕ → Q) (n : ℕ) (h : gsc y (n / 128) ≠ ⊤) : y n ≠ ⊤ := by
  intro hn
  apply h
  have : gmax y (n / 128) = ⊤ := by
    rw [← top_le_iff]
    have hl := Finset.le_sup (f := fun l : Fin 128 => aq (y (n / 128 * 128 + l.val))) (Finset.mem_univ (⟨n % 128, Nat.mod_lt _ (by norm_num)⟩ : Fin 128))
    simp only [Nat.div_add_mod'] at hl
    rwa [hn] at hl
  unfold gsc
  rw [this, EReal.top_mul_coe_of_pos cN_pos, sc_top]

/-- The integer of an entry. -/
def gk (y : ℕ → Q) (n : ℕ) : ℤ := kq (y n) (gsc y (n / 128))

theorem gk_bounds (y : ℕ → Q) (n : ℕ) : -7 ≤ gk y n ∧ gk y n ≤ 7 := kq_bounds _ _

/-- The byte of a pair of entries. -/
def gbyte (y : ℕ → Q) (c : ℕ) : BitVec 8 := byte (gk y (2 * c)) (gk y (2 * c + 1))

/-- The reference's quotient, -/
theorem ref_quot (y : ℕ → Q) (n : ℕ) (x : EReal) (hx : q x = y n) :
    Ideal.fptosi 32 (min ((7 : ℝ) : EReal) (max ((-7 : ℝ) : EReal)
      (Ideal.liftRound Ideal.roundHalfEven (Ideal.div (x * (cN : EReal)) (gsc y (n / 128)))))) = BitVec.ofInt 32 (gk y n) := by
  rw [Ideal.div, if_neg (gsc_pos y _).ne', quot (gsc_pos y _) (fun h => hx ▸ gsc_ne_top y n h), ref_int, hx]
  exact fptosi_int _ (by have := gk_bounds y n; unfold gk kq at this; omega)

/-- and the kernel's. -/
theorem ker_quot (y : ℕ → Q) (n : ℕ) (x : EReal) (hx : q x = y n) :
    Ideal.fptosi 32 (Ideal.liftRound Ideal.roundHalfEven (min ((7 : ℝ) : EReal) (max ((-7 : ℝ) : EReal)
      (x * Ideal.div (cN : EReal) (gsc y (n / 128))))) + ((8 : ℝ) : EReal)) = BitVec.ofInt 32 (gk y n + 8) := by
  rw [Ideal.div, if_neg (gsc_pos y _).ne', ← mul_assoc, quot (gsc_pos y _) (fun h => hx ▸ gsc_ne_top y n h), ker_int, hx]
  exact fptosi_int _ (by have := gk_bounds y n; unfold gk kq at this; omega)

end Cert.Alg

end
-- ==== Proof.KerY.lean ====
/- The kernel's first two phases at an index: the Hadamard product of a chunk is the first nine butterfly stages, the
   butterflies over the chunks are the last six. -/
module

public import proofs.«01_k».proof.Proof.Units
public import proofs.«01_k».proof.Proof.Alg
public import Idealize.ShloMosaic.Lib.Pointwise
public import Idealize.ShloMosaic.Lib.Pipeline.Value
public import Idealize.ShloMosaic.Lib.MatmulPlain

@[expose] public section

set_option maxRecDepth 16384

noncomputable section

namespace Cert.KernelIdeal.Body

open Idealize.ShloMosaic Idealize.ShloMosaic.TcCoe Idealize.SL.Sem Idealize.ShloMosaic.Tactic
open Cert.KernelIdeal
open Shapes1.Facts₀ Shapes2.Facts₀
open Cert.Alg

variable [Facts]

/-! ## Indices -/

theorem idxW (hf : Fin 2) (m lo : Fin 8) (r : Fin 16) (k : Fin 512) :
    (Rect.unit (s := S32x32768) ![hf.val * 16, (m.val * 8 + lo.val) * 512] S16x512.size (inbW hf m lo)).toLoadRect.idx (ix2 r k)
      = ix2 (⟨hf.val * 16 + r.val, by omega⟩ : Fin 32) (⟨(m.val * 8 + lo.val) * 512 + k.val, by omega⟩ : Fin 32768) := by
  show (Rect.unit (s := S32x32768) ![hf.val * 16, (m.val * 8 + lo.val) * 512] S16x512.size (inbW hf m lo)).emb (ix2 r k) = _
  funext a
  apply Fin.ext
  rw [Rect.emb_apply]
  fin_cases a
  · show hf.val * 16 + 1 * r.val = hf.val * 16 + r.val; omega
  · show (m.val * 8 + lo.val) * 512 + 1 * k.val = (m.val * 8 + lo.val) * 512 + k.val; omega

theorem idxS (m lo : Fin 8) (r : Fin 16) (k : Fin 512) :
    (Rect.unit (s := S16x32768) ![0, (m.val * 8 + lo.val) * 512] S16x512.size (inbS m lo)).toLoadRect.idx (ix2 r k)
      = ix2 r (⟨(m.val * 8 + lo.val) * 512 + k.val, by omega⟩ : Fin 32768) := by
  show (Rect.unit (s := S16x32768) ![0, (m.val * 8 + lo.val) * 512] S16x512.size (inbS m lo)).emb (ix2 r k) = _
  funext a
  apply Fin.ext
  rw [Rect.emb_apply]
  fin_cases a
  · show 0 + 1 * r.val = r.val; omega
  · show (m.val * 8 + lo.val) * 512 + 1 * k.val = (m.val * 8 + lo.val) * 512 + k.val; omega

theorem idxH (r k : Fin 512) :
    (Rect.unit (s := S512x512) ![0, 0] S512x512.size inb_S512x512_S512x512_0_0).toLoadRect.idx (ix2 r k) = ix2 r k := by
  show (Rect.unit (s := S512x512) ![0, 0] S512x512.size inb_S512x512_S512x512_0_0).emb (ix2 r k) = _
  funext a
  apply Fin.ext
  rw [Rect.emb_apply]
  fin_cases a
  · show 0 + 1 * r.val = r.val; omega
  · show 0 + 1 * k.val = k.val; omega

/-! ## The stacked chunks -/

/-- The `n`-th of the sixteen stacked pieces. -/
def pieceOf (g : Fin 8 → FVec Ideal S16x512 .bf16 × FVec Ideal S16x512 .bf16) (n : Fin 16) : FVec Ideal S16x512 .bf16 :=
  bif n.val % 2 == 0 then (g ⟨n.val / 2, by omega⟩).1 else (g ⟨n.val / 2, by omega⟩).2

theorem stack16_apply (g : Fin 8 → FVec Ideal S16x512 .bf16 × FVec Ideal S16x512 .bf16) (ρ : Fin 256) (k : Fin 512) :
    stack16 g (ix2 ρ k) = pieceOf g ⟨ρ.val / 16, by omega⟩ (ix2 (⟨ρ.val % 16, by omega⟩ : Fin 16) k) := by
  have e : stack16 g = concatenate S256x512 0 (List.ofFn fun n : Fin 16 => (⟨S16x512, pieceOf g n⟩ : (s : Shape) × (s.Idx → Ideal .bf16)))
      concatenates_S16x512_S16x512_S16x512_S16x512_S16x512_S16x512_S16x512_S16x512_S16x512_S16x512_S16x512_S16x512_S16x512_S16x512_S16x512_S16x512_S256x512_d0 := rfl
  rw [e]
  refine concatenate_ofFn_apply (t := S256x512) (s₁ := S16x512) 0 (pieceOf g) _ rfl 16 rfl (ix2 ρ k) ⟨ρ.val / 16, by omega⟩ rfl
    (ix2 (⟨ρ.val % 16, by omega⟩ : Fin 16) k) rfl ?_
  intro b hb
  match b with
  | ⟨0, _⟩ => exact absurd rfl hb
  | ⟨1, _⟩ => rfl

/-- The product at an index. -/
theorem prodX_apply (X : FVec Ideal S256x512 .bf16) (h : Vec Ideal S512x512 .bf16) (ρ : Fin 256) (c : Fin 512) :
    prodX X h (ix2 ρ c) = ∑ k : Fin 512, (X (ix2 ρ k) : EReal) * (h (ix2 k c) : EReal) := by
  unfold prodX
  rw [show shapeCast S512x512 h shapeCasts_S512x512_S512x512 = h from funext fun i => shapeCast_apply h _ i i rfl]
  refine (Ideal.matmul_plain_apply (M := 256) (K := 512) (N := 512) (φ₁ := .bf16) (φ₂ := .bf16) none X h _ ρ c).trans ?_
  refine (congrArg (fun z : EReal => z + ∑ k : Fin 512, (X (ix2 ρ k) : EReal) * (h (ix2 k c) : EReal)) Ideal.ofBits_zero_f32).trans ?_
  exact zero_add _

section
variable (w : Vec Ideal S32x32768 .bf16) (s : Vec Ideal S16x32768 .bf16) (h : Vec Ideal S512x512 .bf16) (sv : Fin 32768 → EReal)
  (x : Fin 32 → ℕ → Q)
  (hx : ∀ (r : Fin 32) (r' : Fin 16) (n : Fin 32768), q ((w (ix2 r n) : EReal) * (s (ix2 r' n) : EReal)) = x r n.val)

/-- The column of the transform that a column of the Hadamard matrix holds. -/
def ncol (c : ℕ) : ℕ := c / 256 * 256 + c % 128 / 64 * 128 + 2 * (c % 64) + c / 128 % 2

include hx in
theorem chunk_q (m lo : Fin 8) (r : Fin 32) (k : Fin 512) :
    q (stack16 (chunk w s m) (ix2 (⟨lo.val * 32 + r.val, by omega⟩ : Fin 256) k)) = x r (m.val * 4096 + lo.val * 512 + k.val) := by
  rw [stack16_apply]
  have hn : (m.val * 8 + lo.val) * 512 + k.val < 32768 := by omega
  have en : (m.val * 8 + lo.val) * 512 + k.val = m.val * 4096 + lo.val * 512 + k.val := by omega
  have key : ∀ (hf : Fin 2) (r' : Fin 16), hf.val * 16 + r'.val = r.val →
      q (((shapeCast S16x512 (fun x => w ((Rect.unit (s := S32x32768) ![hf.val * 16, (m.val * 8 + lo.val) * 512] S16x512.size (inbW hf m lo)).toLoadRect.idx x)) shapeCasts_S16x512_S16x512) (ix2 r' k) : EReal)
        * ((shapeCast S16x512 (fun x => s ((Rect.unit (s := S16x32768) ![0, (m.val * 8 + lo.val) * 512] S16x512.size (inbS m lo)).toLoadRect.idx x)) shapeCasts_S16x512_S16x512) (ix2 r' k) : EReal))
      = x r (m.val * 4096 + lo.val * 512 + k.val) := by
    intro hf r' hr
    rw [shapeCast_apply _ _ (ix2 r' k) (ix2 r' k) rfl, shapeCast_apply _ _ (ix2 r' k) (ix2 r' k) rfl, idxW, idxS]
    have := hx r r' ⟨_, hn⟩
    rw [show (⟨hf.val * 16 + r'.val, by omega⟩ : Fin 32) = r from Fin.ext hr]
    rw [this]
    exact congrArg (x r) en
  unfold pieceOf
  by_cases hr : r.val < 16
  · have e0 : ((lo.val * 32 + r.val) / 16 % 2 == 0) = true := by rw [beq_iff_eq]; omega
    simp only [e0, cond_true]
    rw [show (⟨(lo.val * 32 + r.val) / 16 / 2, by omega⟩ : Fin 8) = lo from Fin.ext (by show (lo.val * 32 + r.val) / 16 / 2 = lo.val; omega)]
    exact key 0 _ (by show 0 * 16 + (lo.val * 32 + r.val) % 16 = r.val; omega)
  · have e0 : ((lo.val * 32 + r.val) / 16 % 2 == 0) = false := by rw [beq_eq_false_iff_ne]; omega
    simp only [e0, cond_false]
    rw [show (⟨(lo.val * 32 + r.val) / 16 / 2, by omega⟩ : Fin 8) = lo from Fin.ext (by show (lo.val * 32 + r.val) / 16 / 2 = lo.val; omega)]
    exact key 1 _ (by show 1 * 16 + (lo.val * 32 + r.val) % 16 = r.val; omega)

variable (hh : ∀ (k c : Fin 512), (h (ix2 k c) : EReal) = if sg 9 k.val (ncol c.val) then -1 else 1)

include hx hh in
/-- A chunk's product with the Hadamard matrix is its first nine stages. -/
theorem prod_q (m lo : Fin 8) (r : Fin 32) (c : Fin 512) :
    q (rowsX (prodX (stack16 (chunk w s m)) (fun x => h ((Rect.unit (s := S512x512) ![0, 0] S512x512.size inb_S512x512_S512x512_0_0).toLoadRect.idx x))) lo (ix2 r c))
      = bfs 9 (x r) (m.val * 4096 + lo.val * 512 + ncol c.val) := by
  have hc : ncol c.val < 512 := by unfold ncol; omega
  have h1 := chunk_q w s x hx m lo r
  generalize stack16 (chunk w s m) = X at h1 ⊢
  unfold rowsX
  rw [extractStridedSlice_apply _ _ _ _ (ix2 (⟨lo.val * 32 + r.val, by omega⟩ : Fin 256) c) (by
    intro a
    match a with
    | ⟨0, _⟩ => rfl
    | ⟨1, _⟩ => show c.val = 0 + c.val; omega)]
  rw [prodX_apply]
  have hH : ∀ k c : Fin 512, ((fun x => h ((Rect.unit (s := S512x512) ![0, 0] S512x512.size inb_S512x512_S512x512_0_0).toLoadRect.idx x)) (ix2 k c) : EReal)
      = if sg 9 k.val (ncol c.val) then -1 else 1 := by
    intro k c
    show (h ((Rect.unit (s := S512x512) ![0, 0] S512x512.size inb_S512x512_S512x512_0_0).toLoadRect.idx (ix2 k c)) : EReal) = _
    rw [idxH, hh]
  rw [q_sum, bfs_sum, ← Fin.sum_univ_eq_sum_range (fun k => sm (sg 9 k (m.val * 4096 + lo.val * 512 + ncol c.val)) (x r (2 ^ 9 * ((m.val * 4096 + lo.val * 512 + ncol c.val) / 2 ^ 9) + k)))]
  refine Finset.sum_congr rfl fun k _ => ?_
  have e1 : 2 ^ 9 * ((m.val * 4096 + lo.val * 512 + ncol c.val) / 2 ^ 9) + k.val = m.val * 4096 + lo.val * 512 + k.val := by omega
  have e2 : sg 9 k.val (m.val * 4096 + lo.val * 512 + ncol c.val) = sg 9 k.val (ncol c.val) := by
    refine sg_congr 9 (fun _ _ => rfl) fun j hj => ?_
    rw [Nat.testBit_eq_decide_div_mod_eq, Nat.testBit_eq_decide_div_mod_eq]
    refine decide_eq_decide.2 ?_
    interval_cases j <;> omega
  rw [e1, e2, show (h ((Rect.unit (s := S512x512) ![0, 0] S512x512.size inb_S512x512_S512x512_0_0).toLoadRect.idx (ix2 k c)) : EReal) = _ from hH k c, ← h1 k]
  cases sg 9 k.val (ncol c.val)
  · simp [sm]
  · simp only [sm, if_true]
    rw [mul_neg, mul_one, q_neg]

end

/-! ## The butterflies over chunks -/

theorem stage_q {S : Shape} (p : S.Idx) (H a b : ℕ) (hH : H = 512 ∨ H = 4096) (hb : b < H) (e : ℕ) (he : e = 1 ∨ e = 2 ∨ e = 4)
    (v : Fin 8 → FVec Ideal S .f32) (f : ℕ → Q) (hv : ∀ i : Fin 8, q (v i p) = f (a * (8 * H) + i.val * H + b)) (i : Fin 8) :
    q (stage e v i p) = bf (e * H) f (a * (8 * H) + i.val * H + b) := by
  have hs : q (stage e v i p) = if i.val / e % 2 = 0 then f (a * (8 * H) + (i.val + e) * H + b) |> fun z => f (a * (8 * H) + i.val * H + b) + z
      else f (a * (8 * H) + (i.val - e) * H + b) + ng (f (a * (8 * H) + i.val * H + b)) := by
    rcases he with rfl | rfl | rfl <;> fin_cases i <;>
    first
    | exact (q_add _ _).trans (congrArg₂ (· + ·) (hv _) (hv _))
    | exact (q_sub _ _).trans (congrArg₂ (fun x y => x + ng y) (hv _) (hv _))
  rw [hs]
  unfold bf
  have hd : (a * (8 * H) + i.val * H + b) / (e * H) % 2 = i.val / e % 2 := by
    rcases he with rfl | rfl | rfl <;> rcases hH with rfl | rfl <;> omega
  rw [hd]
  split
  · rename_i h0
    show _ + _ = _
    congr 2
    ring
  · rename_i h0
    have : e ≤ i.val := by
      rcases he with rfl | rfl | rfl <;> omega
    congr 2
    have e3 : i.val = (i.val - e) + e := by omega
    have : i.val * H = (i.val - e) * H + e * H := by rw [← Nat.add_mul, ← e3]
    omega

theorem bfly_q {S : Shape} (p : S.Idx) (H a b : ℕ) (hH : H = 512 ∨ H = 4096) (hb : b < H)
    (v : Fin 8 → FVec Ideal S .f32) (f : ℕ → Q) (hv : ∀ i : Fin 8, q (v i p) = f (a * (8 * H) + i.val * H + b)) (i : Fin 8) :
    q (bfly v i p) = bf (4 * H) (bf (2 * H) (bf (1 * H) f)) (a * (8 * H) + i.val * H + b) := by
  unfold bfly
  exact stage_q p H a b hH hb 4 (by simp) _ _ (stage_q p H a b hH hb 2 (by simp) _ _ (stage_q p H a b hH hb 1 (by simp) _ _ hv)) i

/-! ## The first phase -/

section
variable (w : Vec Ideal S32x32768 .bf16) (s : Vec Ideal S16x32768 .bf16) (h : Vec Ideal S512x512 .bf16) (x : Fin 32 → ℕ → Q)
  (hx : ∀ (r : Fin 32) (r' : Fin 16) (n : Fin 32768), q ((w (ix2 r n) : EReal) * (s (ix2 r' n) : EReal)) = x r n.val)
  (hh : ∀ (k c : Fin 512), (h (ix2 k c) : EReal) = if sg 9 k.val (ncol c.val) then -1 else 1)

include hx hh in
theorem part_q (m lo : Fin 8) (r : Fin 32) (c : Fin 512) :
    q (part w s h m lo (ix2 r c)) = bfs 12 (x r) (m.val * 4096 + lo.val * 512 + ncol c.val) := by
  have hc : ncol c.val < 512 := by unfold ncol; omega
  unfold part
  exact bfly_q (ix2 r c) 512 m.val (ncol c.val) (.inl rfl) hc _ (bfs 9 (x r)) (fun i => prod_q w s h x hx hh m i r c) lo

/-- The place in a row of a place of `y`. -/
def pos (m lo dp lane : ℕ) : ℕ := m * 4096 + lo * 512 + (dp / 2 * 256 + lane / 64 * 128 + 2 * (lane % 64) + dp % 2)

include hx hh in
theorem Y1_q (m lo : Fin 8) (dp : Fin 4) (r : Fin 32) (lane : Fin 128) :
    q (Y1 w s h (ix5 m lo dp r lane)) = bfs 12 (x r) (pos m.val lo.val dp.val lane.val) := by
  refine (part_q w s h x hx hh m lo r ⟨dp.val * 128 + lane.val, by omega⟩).trans ?_
  refine congrArg (bfs 12 (x r)) ?_
  unfold pos ncol
  show m.val * 4096 + lo.val * 512 + ((dp.val * 128 + lane.val) / 256 * 256 + (dp.val * 128 + lane.val) % 128 / 64 * 128
    + 2 * ((dp.val * 128 + lane.val) % 64) + (dp.val * 128 + lane.val) / 128 % 2) = _
  omega

end

/-! ## The second phase's butterflies -/

section
variable (Y : Vec Ideal S8x8x4x32x128 .f32) (x : Fin 32 → ℕ → Q)
  (hY : ∀ (m lo : Fin 8) (dp : Fin 4) (r : Fin 32) (lane : Fin 128), q (Y (ix5 m lo dp r lane)) = bfs 12 (x r) (pos m.val lo.val dp.val lane.val))

include hY in
theorem gOf_q (m lo : Fin 8) (rb dp : Fin 4) (r : Fin 8) (lane : Fin 128) :
    q (gOf Y lo rb dp m (ix2 r lane)) = Alg.T (x ⟨rb.val * 8 + r.val, by omega⟩) (pos m.val lo.val dp.val lane.val) := by
  unfold gOf
  have e := bfly_q (ix2 r lane) 4096 0 (lo.val * 512 + (dp.val / 2 * 256 + lane.val / 64 * 128 + 2 * (lane.val % 64) + dp.val % 2)) (.inr rfl) (by omega)
    (fun m => y8 Y m lo dp rb) (bfs 12 (x ⟨rb.val * 8 + r.val, by omega⟩)) (fun i => ?_) m
  · refine e.trans (congrArg (Alg.T (x ⟨rb.val * 8 + r.val, by omega⟩)) ?_)
    unfold pos
    omega
  · unfold y8
    rw [shapeCast_apply _ _ (ix2 r lane) (ix5 (n0 := 1) (n1 := 1) (n2 := 1) 0 0 0 r lane) (by
      rw [Shape.rowMajor_val_two, Shape.rowMajor_val_five]
      show (((0 * 1 + 0) * 1 + 0) * 8 + r.val) * 128 + lane.val = r.val * 128 + lane.val
      omega)]
    show q (Y ((Rect.unit (s := S8x8x4x32x128) ![i.val, lo.val, dp.val, rb.val * 8, 0] S1x1x1x8x128.size (inbY8 i lo dp rb)).emb _)) = _
    rw [idx8]
    refine (hY i lo dp _ lane).trans ?_
    refine congrArg (bfs 12 (x ⟨rb.val * 8 + r.val, by omega⟩)) ?_
    unfold pos
    omega

include hY in
theorem Y2_q (m lo : Fin 8) (dp : Fin 4) (r : Fin 32) (lane : Fin 128) :
    q (Y2 Y (ix5 m lo dp r lane)) = Alg.T (x r) (pos m.val lo.val dp.val lane.val) := by
  refine (gOf_q Y x hY m lo ⟨r.val / 8, by omega⟩ dp ⟨r.val % 8, by omega⟩ lane).trans ?_
  congr 2
  apply Fin.ext
  show r.val / 8 * 8 + r.val % 8 = r.val
  omega

include hY in
theorem yb_q (m lo : Fin 8) (dp : Fin 4) (r : Fin 32) (lane : Fin 128) :
    q (yb (Y2 Y) m lo dp (ix2 r lane)) = Alg.T (x r) (pos m.val lo.val dp.val lane.val) := by
  rw [← Y2_q Y x hY]
  unfold yb
  rw [shapeCast_apply _ _ (ix2 r lane) (ix5 (n0 := 1) (n1 := 1) (n2 := 1) 0 0 0 r lane) (by
    rw [Shape.rowMajor_val_two, Shape.rowMajor_val_five]
    show (((0 * 1 + 0) * 1 + 0) * 32 + r.val) * 128 + lane.val = r.val * 128 + lane.val
    omega)]
  show q (Y2 Y ((Rect.unit (s := S8x8x4x32x128) ![m.val, lo.val, dp.val, 0, 0] S1x1x1x32x128.size (inbY m lo dp)).emb _)) = _
  refine congrArg (fun z => q (Y2 Y z)) ?_
  funext a
  apply Fin.ext
  rw [Rect.emb_apply]
  fin_cases a
  · show m.val + 1 * 0 = m.val; omega
  · show lo.val + 1 * 0 = lo.val; omega
  · show dp.val + 1 * 0 = dp.val; omega
  · show 0 + 1 * r.val = r.val; omega
  · show 0 + 1 * lane.val = lane.val; omega

end

end Cert.KernelIdeal.Body
-- ==== Proof.RefVal.lean ====
/- The reference's results at an index, in the vocabulary of `Alg`. -/
module

public import proofs.«01_k».proof.Proof.RefRun
public import proofs.«01_k».proof.Proof.Alg
public import Idealize.ShloMosaic.Lib.Pointwise
public import Idealize.ShloMosaic.Lib.Pipeline.Value

@[expose] public section

set_option maxRecDepth 16384

noncomputable section

namespace Cert.ReferenceIdeal.Line

open Cert.ReferenceIdeal Cert.ReferenceIdeal.Gen
open Idealize.ShloMosaic Idealize.ShloMosaic.TcCoe Idealize.ShloMosaic.StableHlo Idealize.SL.Sem Idealize.ShloMosaic.Tactic

open Cert.Alg

/-- One half of each pair, read at an index. -/
theorem half_apply {n h : ℕ} (H : Fits n h) (b : Fin 2) (hs : (SA n h).Slices ![0, 0, 0, b.val, 0] (SB n h))
    (v : FVec Ideal S3x640x32768 .f32) (i : Fin 3) (j : Fin 640) (a : Fin n) (c : Fin h) (k : Fin 32768)
    (hk : k.val = (a.val * 2 + b.val) * h + c.val) (hn : n * 2 * h = 32768) :
    shapeCast (SC n h) (extractStridedSlice (SB n h) ![0, 0, 0, b.val, 0] (shapeCast (SA n h) v H.split) hs) H.drop (ix4 i j a c)
      = v (ix3 i j k) := by
  refine (shapeCast_apply _ H.drop (ix4 i j a c) (ix5 i j a (0 : Fin 1) c) ?_).trans ?_
  · rw [Shape.rowMajor_val_five, Shape.rowMajor_val_four]
    simp
  refine (extractStridedSlice_apply _ _ hs _ (ix5 i j a b c) ?_).trans ?_
  · intro x
    match x with
    | ⟨0, _⟩ => simp [ix5]
    | ⟨1, _⟩ => simp [ix5]
    | ⟨2, _⟩ => simp [ix5]
    | ⟨3, _⟩ => simp [ix5]
    | ⟨4, _⟩ => simp [ix5]
  refine shapeCast_apply _ H.split _ _ ?_
  rw [Shape.rowMajor_val_five, Shape.rowMajor_val_three]
  simp only [ix3_0, ix3_1, ix3_2, ix5_0, ix5_1, ix5_2, ix5_3, ix5_4]
  show (i.val * 640 + j.val) * 32768 + k.val = (((i.val * 640 + j.val) * n + a.val) * 2 + b.val) * h + c.val
  rw [hk, ← hn]
  ring

/-- One stage is one butterfly of the images. -/
theorem stage_q {n h : ℕ} (H : Fits n h) (hn : n * 2 * h = 32768) (v : FVec Ideal S3x640x32768 .f32) (f : Fin 3 → Fin 640 → ℕ → Q)
    (hv : ∀ i j (k : Fin 32768), q (v (ix3 i j k)) = f i j k.val) (i : Fin 3) (j : Fin 640) (k : Fin 32768) :
    q (stage n h H v (ix3 i j k)) = bf h (f i j) k.val := by
  have hh : 0 < h := by rcases Nat.eq_zero_or_pos h with rfl | h0 <;> omega
  have hkl := k.isLt
  have hdm := Nat.div_add_mod k.val h
  have hc := Nat.mod_lt k.val hh
  have hq := Nat.div_add_mod (k.val / h) 2
  have hlt : k.val / h < n * 2 := by rw [Nat.div_lt_iff_lt_mul hh]; omega
  have ha : k.val / h / 2 < n := by omega
  set a : Fin n := ⟨k.val / h / 2, ha⟩ with hadef
  set c : Fin h := ⟨k.val % h, hc⟩ with hcdef
  have hkey : k.val = (k.val / h) * h + k.val % h := by rw [Nat.mul_comm]; exact hdm.symm
  have hspan : (a.val * 2 + 1) * h + c.val < 32768 := by
    have h1 : a.val * 2 + 2 ≤ n * 2 := by omega
    have h2 : (a.val * 2 + 2) * h ≤ n * 2 * h := Nat.mul_le_mul_right h h1
    have h3 : (a.val * 2 + 2) * h = (a.val * 2 + 1) * h + h := by ring
    have := c.isLt
    omega
  have hspan0 : (a.val * 2) * h + c.val < 32768 := by
    have h3 : (a.val * 2 + 1) * h = (a.val * 2) * h + h := by ring
    omega
  have e0 := half_apply H 0 H.lo v i j a c ⟨(a.val * 2) * h + c.val, hspan0⟩ (by simp) hn
  have e1 := half_apply H 1 H.hi v i j a c ⟨(a.val * 2 + 1) * h + c.val, hspan⟩ (by simp) hn
  have hmul : (a.val * 2 + 1) * h = (a.val * 2) * h + h := by ring
  unfold stage
  rcases Nat.mod_two_eq_zero_or_one (k.val / h) with hb | hb
  · have hk0 : k.val = (a.val * 2) * h + c.val := by
      have : a.val * 2 = k.val / h := by show k.val / h / 2 * 2 = _; omega
      rw [this]; exact hkey
    rw [shapeCast_apply _ H.join (ix3 i j k) (ix5 i j a (0 : Fin 2) c) (by
      rw [Shape.rowMajor_val_five, Shape.rowMajor_val_three]
      simp only [ix3_0, ix3_1, ix3_2, ix5_0, ix5_1, ix5_2, ix5_3, ix5_4]
      show (((i.val * 640 + j.val) * n + a.val) * 2 + 0) * h + c.val = (i.val * 640 + j.val) * 32768 + k.val
      rw [hk0, ← hn]
      ring)]
    rw [concatenate_pair_apply_left (t := SA n h) (s₁ := SB n h) (s₂ := SB n h) 3 _ _ H.cat (ix5 i j a (0 : Fin 2) c) rfl
      (ix5 i j a (0 : Fin 1) c) (by
        intro x
        match x with
        | ⟨0, _⟩ => rfl
        | ⟨1, _⟩ => rfl
        | ⟨2, _⟩ => rfl
        | ⟨3, _⟩ => rfl
        | ⟨4, _⟩ => rfl)]
    rw [broadcastInDim_apply (s := SC n h) (t := SB n h) _ H.bc _ _ (ix4 i j a c) (by
        intro x
        match x with
        | ⟨0, _⟩ => rfl
        | ⟨1, _⟩ => rfl
        | ⟨2, _⟩ => show a.val = if n = 1 then 0 else a.val; split_ifs <;> omega
        | ⟨3, _⟩ => show c.val = if h = 1 then 0 else c.val; split_ifs <;> omega)]
    refine (congrArg q (congrArg₂ (fun x y : EReal => x + y) e0 e1)).trans ?_
    rw [q_add, hv, hv]
    unfold bf
    rw [if_pos hb]
    simp only
    rw [hmul, hk0]
    congr 2
    omega
  · have hk1 : k.val = (a.val * 2 + 1) * h + c.val := by
      have : a.val * 2 + 1 = k.val / h := by show k.val / h / 2 * 2 + 1 = _; omega
      rw [this]; exact hkey
    rw [shapeCast_apply _ H.join (ix3 i j k) (ix5 i j a (1 : Fin 2) c) (by
      rw [Shape.rowMajor_val_five, Shape.rowMajor_val_three]
      simp only [ix3_0, ix3_1, ix3_2, ix5_0, ix5_1, ix5_2, ix5_3, ix5_4]
      show (((i.val * 640 + j.val) * n + a.val) * 2 + 1) * h + c.val = (i.val * 640 + j.val) * 32768 + k.val
      rw [hk1, ← hn]
      ring)]
    rw [concatenate_pair_apply_right (t := SA n h) (s₁ := SB n h) (s₂ := SB n h) 3 _ _ H.cat (ix5 i j a (1 : Fin 2) c) rfl rfl
      (ix5 i j a (0 : Fin 1) c) (by
        intro x hx
        match x with
        | ⟨0, _⟩ => rfl
        | ⟨1, _⟩ => rfl
        | ⟨2, _⟩ => rfl
        | ⟨3, _⟩ => exact absurd rfl hx
        | ⟨4, _⟩ => rfl) rfl]
    rw [broadcastInDim_apply (s := SC n h) (t := SB n h) _ H.bc _ _ (ix4 i j a c) (by
        intro x
        match x with
        | ⟨0, _⟩ => rfl
        | ⟨1, _⟩ => rfl
        | ⟨2, _⟩ => show a.val = if n = 1 then 0 else a.val; split_ifs <;> omega
        | ⟨3, _⟩ => show c.val = if h = 1 then 0 else c.val; split_ifs <;> omega)]
    refine (congrArg q (congrArg₂ (fun x y : EReal => x - y) e0 e1)).trans ?_
    rw [q_sub, hv, hv]
    unfold bf
    rw [if_neg (by omega)]
    simp only
    rw [hk1, hmul]
    congr 2
    omega

/-- The row the transform starts from: each weight with its sign. -/
def row (w : FVec Ideal S3x640x32768 .bf16) (s : FVec Ideal S32768 .f32) (i : Fin 3) (j : Fin 640) (n : ℕ) : Q :=
  if h : n < 32768 then q ((w (ix3 i j ⟨n, h⟩) : EReal) * (s (ix1 ⟨n, h⟩) : EReal)) else 0

theorem signed_q (w : FVec Ideal S3x640x32768 .bf16) (s : FVec Ideal S32768 .f32) (i : Fin 3) (j : Fin 640) (k : Fin 32768) :
    q (signed w s (ix3 i j k)) = row w s i j k.val := by
  unfold row
  rw [dif_pos k.isLt]
  refine congrArg q (congrArg (fun y : EReal => (w (ix3 i j k) : EReal) * y) ?_)
  refine (broadcastInDim_apply (s := S1x1x32768) _ bcast_S1x1x32768_S3x640x32768_0_1_2 _ _ (ix3 (0 : Fin 1) (0 : Fin 1) k) ?_).trans ?_
  · intro x
    match x with
    | ⟨0, _⟩ => rfl
    | ⟨1, _⟩ => rfl
    | ⟨2, _⟩ => rfl
  refine (broadcastInDim_apply (s := S32768) _ bcast_S32768_S1x1x32768_2 _ _ (ix1 k) ?_)
  intro x
  match x with
  | ⟨0, _⟩ => rfl

/-- The whole transform of the reference. -/
theorem chain_q (w : FVec Ideal S3x640x32768 .bf16) (s : FVec Ideal S32768 .f32) (i : Fin 3) (j : Fin 640) (k : Fin 32768) :
    q (chain (signed w s) (ix3 i j k)) = T (row w s i j) k.val := by
  have h0 := signed_q w s
  have h1 := stage_q fits0 (by norm_num) _ _ h0
  have h2 := stage_q fits1 (by norm_num) _ _ h1
  have h3 := stage_q fits2 (by norm_num) _ _ h2
  have h4 := stage_q fits3 (by norm_num) _ _ h3
  have h5 := stage_q fits4 (by norm_num) _ _ h4
  have h6 := stage_q fits5 (by norm_num) _ _ h5
  have h7 := stage_q fits6 (by norm_num) _ _ h6
  have h8 := stage_q fits7 (by norm_num) _ _ h7
  have h9 := stage_q fits8 (by norm_num) _ _ h8
  have h10 := stage_q fits9 (by norm_num) _ _ h9
  have h11 := stage_q fits10 (by norm_num) _ _ h10
  have h12 := stage_q fits11 (by norm_num) _ _ h11
  have h13 := stage_q fits12 (by norm_num) _ _ h12
  have h14 := stage_q fits13 (by norm_num) _ _ h13
  have h15 := stage_q fits14 (by norm_num) _ _ h14
  refine (h15 i j k).trans ?_
  rfl

/-- An entry of a group. -/
theorem grouped_apply (v : FVec Ideal S3x640x32768 .f32) (i : Fin 3) (j : Fin 640) (g : Fin 256) (l : Fin 128) (k : Fin 32768)
    (hk : k.val = g.val * 128 + l.val) : grouped v (ix4 i j g l) = (v (ix3 i j k) : EReal) * (cN : EReal) := by
  unfold grouped
  rw [shapeCast_apply _ _ _ (ix3 i j k) (by
    rw [Shape.rowMajor_val_three, Shape.rowMajor_val_four]
    simp only [ix3_0, ix3_1, ix3_2, ix4_0, ix4_1, ix4_2, ix4_3]
    show (i.val * 640 + j.val) * 32768 + k.val = ((i.val * 640 + j.val) * 256 + g.val) * 128 + l.val
    omega)]
  pointwise
  rw [ofBits_cN]

/-- The group's magnitude, scaled. -/
theorem top_apply (y : ℕ → Q) (v : FVec Ideal S3x640x32768 .f32) (i : Fin 3) (j : Fin 640)
    (hv : ∀ k : Fin 32768, q (v (ix3 i j k)) = y k.val) (g : Fin 256) :
    top (grouped v) (ix3 i j g) = gmax y g.val * (cN : EReal) := by
  unfold top
  pointwise
  rw [ofBits_bot]
  unfold gmax
  rw [sup_mul]
  unfold Finset.sup
  refine congrArg (fun f => Finset.fold max (⊥ : EReal) f (Finset.univ : Finset (Fin 128))) (funext fun l => ?_)
  have hk : g.val * 128 + l.val < 32768 := by omega
  have e := hv ⟨_, hk⟩
  show max (grouped v (ix4 i j g l) : EReal) (-(grouped v (ix4 i j g l) : EReal)) = _
  rw [grouped_apply v i j g l ⟨_, hk⟩ rfl, max_neg_mul, e]

theorem pick_apply {s : Shape} (t z o d : FVec Ideal s .f32) (p : s.Idx) :
    select (cmpf .oeq t z) o (Host.divf t d) p
      = Scalar.select (FloatOps.cmpf (F := Ideal) (φ := .f32) .oeq (t p) (z p)) (o p) (Ideal.div (t p) (d p)) := by
  show Scalar.select (cmpf .oeq t z p) (o p) (Host.divf t d p) = _
  rw [Host.divf_apply, Ideal.hostDivf_def]
  rfl

theorem quot_apply {s : Shape} (u b m d : FVec Ideal s .f32) (p : s.Idx) :
    fptosi 32 (minimumf d (maximumf m (Host.roundeven (Host.divf u b)))) p
      = Ideal.fptosi 32 (min (d p) (max (m p) (Ideal.liftRound Ideal.roundHalfEven (Ideal.div (u p) (b p))))) := by
  rw [fptosi_apply, minimumf_apply, maximumf_apply, Host.roundeven_apply, Host.divf_apply, Ideal.hostDivf_def, Ideal.hostUnary_roundeven_def]
  rfl

/-- The choice of a scale: one for an all-zero group. -/
theorem pick_eq (a z o : EReal) (hz : z = 0) (ho : o = 1) :
    Scalar.select (FloatOps.cmpf (F := Ideal) (φ := .f32) .oeq a z) o (Ideal.div a ((7 : ℝ) : EReal)) = sc a := by
  subst hz ho
  unfold sc Scalar.select
  by_cases h : a = 0
  · rw [if_pos h, if_pos]
    show BitVec.ofBool (decide (a = 0)) = 1
    simp [h]
  · rw [if_neg h, if_neg]
    show ¬ BitVec.ofBool (decide (a = 0)) = 1
    simp [h]

theorem scales_apply (y : ℕ → Q) (v : FVec Ideal S3x640x32768 .f32) (i : Fin 3) (j : Fin 640)
    (hv : ∀ k : Fin 32768, q (v (ix3 i j k)) = y k.val) (g : Fin 256) :
    scales (grouped v) (ix3 i j g) = gsc y g.val := by
  have e := top_apply y v i j hv g
  unfold gsc
  rw [← e]
  unfold scales
  generalize top (grouped v) = t
  generalize ix3 i j g = p
  have hz : ∀ p, broadcastInDim S3x640x256 ![] bcast_S_S3x640x256 (constant (F := Ideal) S_ .f32 0x00000000#32) p = (0 : EReal) :=
    fun p => Ideal.ofBits_zero_f32
  have ho : ∀ p, broadcastInDim S3x640x256 ![] bcast_S_S3x640x256 (constant (F := Ideal) S_ .f32 0x3F800000#32) p = (1 : EReal) :=
    fun p => Ideal.ofBits_one_f32
  have h7 : ∀ p, broadcastInDim S3x640x256 ![] bcast_S_S3x640x256 (constant (F := Ideal) S_ .f32 0x40E00000#32) p = ((7 : ℝ) : EReal) :=
    fun p => ofBits_seven
  generalize broadcastInDim S3x640x256 ![] bcast_S_S3x640x256 (constant (F := Ideal) S_ .f32 0x00000000#32) = Z at hz ⊢
  generalize broadcastInDim S3x640x256 ![] bcast_S_S3x640x256 (constant (F := Ideal) S_ .f32 0x3F800000#32) = O at ho ⊢
  generalize broadcastInDim S3x640x256 ![] bcast_S_S3x640x256 (constant (F := Ideal) S_ .f32 0x40E00000#32) = S at h7 ⊢
  refine Eq.trans ?_ (pick_eq (t p) (Z p) (O p) (hz p) (ho p))
  rw [← h7 p]
  exact pick_apply t Z O S p

theorem ints_apply (y : ℕ → Q) (v : FVec Ideal S3x640x32768 .f32) (i : Fin 3) (j : Fin 640)
    (hv : ∀ k : Fin 32768, q (v (ix3 i j k)) = y k.val) (k : Fin 32768) :
    ints (grouped v) (ix3 i j k) = BitVec.ofInt 32 (gk y k.val) := by
  unfold ints
  have hg : k.val / 128 < 256 := by omega
  rw [shapeCast_apply _ _ _ (ix4 i j (⟨k.val / 128, hg⟩ : Fin 256) (⟨k.val % 128, Nat.mod_lt _ (by norm_num)⟩ : Fin 128)) (by
    rw [Shape.rowMajor_val_three, Shape.rowMajor_val_four]
    simp only [ix3_0, ix3_1, ix3_2, ix4_0, ix4_1, ix4_2, ix4_3]
    show ((i.val * 640 + j.val) * 256 + k.val / 128) * 128 + k.val % 128 = (i.val * 640 + j.val) * 32768 + k.val
    omega)]
  rw [← ref_quot y k.val _ (hv k)]
  have e1 := scales_apply y v i j hv ⟨k.val / 128, hg⟩
  have e2 := grouped_apply v i j ⟨k.val / 128, hg⟩ ⟨k.val % 128, Nat.mod_lt _ (by norm_num)⟩ k (by show k.val = k.val / 128 * 128 + k.val % 128; omega)
  have e3 : broadcastInDim S3x640x256x128 ![0, 1, 2, 3] bcast_S3x640x256x1_S3x640x256x128_0_1_2_3
        (broadcastInDim S3x640x256x1 ![0, 1, 2] bcast_S3x640x256_S3x640x256x1_0_1_2 (scales (grouped v)))
        (ix4 i j (⟨k.val / 128, hg⟩ : Fin 256) (⟨k.val % 128, Nat.mod_lt _ (by norm_num)⟩ : Fin 128)) = gsc y (k.val / 128) := by
    rw [← e1]
    generalize scales (grouped v) = t
    pointwise
  have h7 : ∀ p, broadcastInDim S3x640x256x128 ![] bcast_S_S3x640x256x128 (constant (F := Ideal) S_ .f32 0x40E00000#32) p = ((7 : ℝ) : EReal) :=
    fun p => ofBits_seven
  have hm : ∀ p, broadcastInDim S3x640x256x128 ![] bcast_S_S3x640x256x128 (constant (F := Ideal) S_ .f32 0xC0E00000#32) p = ((-7 : ℝ) : EReal) :=
    fun p => ofBits_neg_seven
  generalize broadcastInDim S3x640x256x128 ![] bcast_S_S3x640x256x128 (constant (F := Ideal) S_ .f32 0x40E00000#32) = S at h7 ⊢
  generalize broadcastInDim S3x640x256x128 ![] bcast_S_S3x640x256x128 (constant (F := Ideal) S_ .f32 0xC0E00000#32) = M at hm ⊢
  generalize broadcastInDim S3x640x256x128 ![0, 1, 2, 3] bcast_S3x640x256x1_S3x640x256x128_0_1_2_3
        (broadcastInDim S3x640x256x1 ![0, 1, 2] bcast_S3x640x256_S3x640x256x1_0_1_2 (scales (grouped v))) = B at e3 ⊢
  generalize grouped v = u at e2 ⊢
  generalize ix4 i j (⟨k.val / 128, hg⟩ : Fin 256) (⟨k.val % 128, Nat.mod_lt _ (by norm_num)⟩ : Fin 128) = p at e2 e3 ⊢
  rw [← e2, ← e3, ← h7 p, ← hm p]
  exact quot_apply u B M S p

theorem codes_apply (y : ℕ → Q) (v : FVec Ideal S3x640x32768 .f32) (i : Fin 3) (j : Fin 640)
    (hv : ∀ k : Fin 32768, q (v (ix3 i j k)) = y k.val) (c : Fin 16384) :
    codes (grouped v) (ix3 i j c) = gbyte y c.val := by
  have hp : ∀ (p : Fin 2), pairs (grouped v) (ix4 i j c p) = BitVec.ofInt 32 (gk y (2 * c.val + p.val)) &&& 15#32 := by
    intro p
    have hk : 2 * c.val + p.val < 32768 := by omega
    unfold pairs
    rw [shapeCast_apply _ _ _ (ix3 i j ⟨_, hk⟩) (by
      rw [Shape.rowMajor_val_three, Shape.rowMajor_val_four]
      simp only [ix3_0, ix3_1, ix3_2, ix4_0, ix4_1, ix4_2, ix4_3]
      show (i.val * 640 + j.val) * 32768 + (2 * c.val + p.val) = ((i.val * 640 + j.val) * 16384 + c.val) * 2 + p.val
      omega)]
    have e := ints_apply y v i j hv ⟨_, hk⟩
    generalize ints (grouped v) = t at e ⊢
    exact congrArg (fun z => z &&& 15#32) e
  unfold codes gbyte
  rw [← ref_byte _ _ (gk_bounds y _) (gk_bounds y _)]
  have h0 := hp 0
  have h1 := hp 1
  generalize pairs (grouped v) = t at h0 h1 ⊢
  pointwise
  rw [h0, h1]
  rfl

/-- The two results of the reference at an index. -/
theorem scales_val (w : FVec Ideal S3x640x32768 .bf16) (s : FVec Ideal S32768 .f32) (i : Fin 3) (j : Fin 640) (g : Fin 256) :
    scales (grouped (chain (signed w s))) (ix3 i j g) = gsc (T (row w s i j)) g.val :=
  scales_apply _ _ i j (chain_q w s i j) g

theorem codes_val (w : FVec Ideal S3x640x32768 .bf16) (s : FVec Ideal S32768 .f32) (i : Fin 3) (j : Fin 640) (c : Fin 16384) :
    codes (grouped (chain (signed w s))) (ix3 i j c) = gbyte (T (row w s i j)) c.val :=
  codes_apply _ _ i j (chain_q w s i j) c

end Cert.ReferenceIdeal.Line
-- ==== Proof.KerS.lean ====
/- The kernel's scales at an index. -/
module

public import proofs.«01_k».proof.Proof.KerY
public import proofs.«01_k».proof.Proof.RefVal

@[expose] public section

set_option maxRecDepth 16384

noncomputable section

namespace Cert.KernelIdeal.Body

open Idealize.ShloMosaic Idealize.ShloMosaic.TcCoe Idealize.SL.Sem Idealize.ShloMosaic.Tactic
open Cert.KernelIdeal
open Shapes1.Facts₀ Shapes2.Facts₀
open Cert.Alg

variable [Facts]

/-! ## The maxima -/

/-- The `n`-th of the sixteen stacked magnitudes. -/
def magOf (g : Fin 2 → Fin 2 → Fin 8 → FVec Ideal S8x128 .f32) (n : Fin 16) : FVec Ideal S8x128 .f32 :=
  maximumf (absf (g ⟨n.val % 2, by omega⟩ 0 ⟨n.val / 2, by omega⟩)) (absf (g ⟨n.val % 2, by omega⟩ 1 ⟨n.val / 2, by omega⟩))

theorem maxT_apply (g : Fin 2 → Fin 2 → Fin 8 → FVec Ideal S8x128 .f32) (lane ρ : Fin 128) :
    maxT g (ix2 lane ρ) = magOf g ⟨ρ.val / 8, by omega⟩ (ix2 (⟨ρ.val % 8, by omega⟩ : Fin 8) lane) := by
  have e : maxT g = transpose S128x128 [1, 0] (concatenate S128x128 0 (List.ofFn fun n : Fin 16 => (⟨S8x128, magOf g n⟩ : (s : Shape) × (s.Idx → Ideal .f32)))
      concatenates_S8x128_S8x128_S8x128_S8x128_S8x128_S8x128_S8x128_S8x128_S8x128_S8x128_S8x128_S8x128_S8x128_S8x128_S8x128_S8x128_S128x128_d0) transposes_S128x128_p1_0_S128x128 := rfl
  rw [e]
  rw [transpose_apply _ _ _ (ix2 lane ρ) (ix2 ρ lane) (by
    intro b
    match b with
    | ⟨0, _⟩ => rfl
    | ⟨1, _⟩ => rfl)]
  refine concatenate_ofFn_apply (t := S128x128) (s₁ := S8x128) 0 (magOf g) _ rfl 8 rfl (ix2 ρ lane) ⟨ρ.val / 8, by omega⟩ rfl
    (ix2 (⟨ρ.val % 8, by omega⟩ : Fin 8) lane) rfl ?_
  intro b hb
  match b with
  | ⟨0, _⟩ => exact absurd rfl hb
  | ⟨1, _⟩ => rfl

theorem maxH_apply (mt : FVec Ideal S128x128 .f32) (hf : Fin 2) (ρ : Fin 128) :
    maxH mt hf (ix2 (0 : Fin 1) ρ) = Finset.univ.sup fun k : Fin 64 => (mt (ix2 (⟨hf.val * 64 + k.val, by omega⟩ : Fin 128) ρ) : EReal) := by
  unfold maxH
  rw [shapeCast_apply _ _ (ix2 (0 : Fin 1) ρ) (ix1 ρ) (by
    rw [Shape.rowMajor_val_two, Shape.rowMajor_val_one]
    show ρ.val = 0 * 128 + ρ.val
    omega)]
  have hs : ∀ k : Fin 64, extractStridedSlice S64x128 ![hf.val * 64, 0] mt (slH hf) (ix2 k ρ) = mt (ix2 (⟨hf.val * 64 + k.val, by omega⟩ : Fin 128) ρ) := by
    intro k
    refine extractStridedSlice_apply _ _ _ _ _ ?_
    intro a
    match a with
    | ⟨0, _⟩ => rfl
    | ⟨1, _⟩ => show ρ.val = 0 + ρ.val; omega
  generalize extractStridedSlice S64x128 ![hf.val * 64, 0] mt (slH hf) = u at hs ⊢
  pointwise
  rw [ofBits_bot]
  unfold Finset.sup
  exact congrArg (fun f => Finset.fold max (⊥ : EReal) f (Finset.univ : Finset (Fin 64))) (funext hs)

theorem stackM_apply (t : Fin 4 → Fin 2 → FVec Ideal S1x128 .f32) (n : Fin 8) (ρ : Fin 128) :
    stackM t (ix2 n ρ) = t ⟨n.val / 2, by omega⟩ ⟨n.val % 2, by omega⟩ (ix2 (0 : Fin 1) ρ) := by
  have e : stackM t = concatenate S8x128 0 (List.ofFn fun n : Fin 8 => (⟨S1x128, t ⟨n.val / 2, by omega⟩ ⟨n.val % 2, by omega⟩⟩ : (s : Shape) × (s.Idx → Ideal .f32)))
    concatenates_S1x128_S1x128_S1x128_S1x128_S1x128_S1x128_S1x128_S1x128_S8x128_d0 := rfl
  rw [e]
  refine concatenate_ofFn_apply (t := S8x128) (s₁ := S1x128) 0 (fun n : Fin 8 => t ⟨n.val / 2, by omega⟩ ⟨n.val % 2, by omega⟩) _ rfl 1 rfl (ix2 n ρ) n (Nat.div_one _)
    (ix2 (0 : Fin 1) ρ) (by show 0 = n.val % 1; omega) ?_
  intro b hb
  match b with
  | ⟨0, _⟩ => exact absurd rfl hb
  | ⟨1, _⟩ => rfl

/-- A group's maximum, taken over pairs of entries. -/
theorem gmax_pairs (y : ℕ → Q) (g : ℕ) :
    (Finset.univ.sup fun j : Fin 64 => max (aq (y (g * 128 + 2 * j.val))) (aq (y (g * 128 + 2 * j.val + 1)))) = gmax y g := by
  unfold gmax
  apply le_antisymm
  · refine Finset.sup_le fun j _ => max_le ?_ ?_
    · exact Finset.le_sup (f := fun l : Fin 128 => aq (y (g * 128 + l.val))) (Finset.mem_univ (⟨2 * j.val, by omega⟩ : Fin 128))
    · exact Finset.le_sup (f := fun l : Fin 128 => aq (y (g * 128 + l.val))) (Finset.mem_univ (⟨2 * j.val + 1, by omega⟩ : Fin 128))
  · refine Finset.sup_le fun l _ => ?_
    refine le_trans ?_ (Finset.le_sup (f := fun j : Fin 64 => max (aq (y (g * 128 + 2 * j.val))) (aq (y (g * 128 + 2 * j.val + 1)))) (Finset.mem_univ (⟨l.val / 2, by omega⟩ : Fin 64)))
    rcases Nat.mod_two_eq_zero_or_one l.val with h | h
    · rw [show g * 128 + l.val = g * 128 + 2 * (l.val / 2) by omega]
      exact le_max_left _ _
    · rw [show g * 128 + l.val = g * 128 + 2 * (l.val / 2) + 1 by omega]
      exact le_max_right _ _

theorem pickK_apply {s : Shape} (t z o d : FVec Ideal s .f32) (p : s.Idx) :
    select (cmpf .oeq t z) o (divf t d) p
      = Scalar.select (FloatOps.cmpf (F := Ideal) (φ := .f32) .oeq (t p) (z p)) (o p) (Ideal.div (t p) (d p)) := by
  show Scalar.select (cmpf .oeq t z p) (o p) (divf t d p) = _
  rw [divf_apply, Ideal.divf_def]
  rfl

theorem scaleOf_apply (t : FVec Ideal S8x128 .f32) (p : S8x128.Idx) : scaleOf t p = sc ((t p : EReal) * (cN : EReal)) := by
  unfold scaleOf
  have hm : mulf t (broadcast S8x128 (Scalar.ofBits .f32 0x3BB504F3#32)) p = (t p : EReal) * (cN : EReal) := congrArg (fun z : EReal => (t p : EReal) * z) ofBits_cN
  rw [pickK_apply, hm]
  rw [show (broadcast S8x128 (Scalar.ofBits (F := Ideal) .f32 0x40E00000#32) p : EReal) = ((7 : ℝ) : EReal) from ofBits_seven]
  exact Cert.ReferenceIdeal.Line.pick_eq _ _ _ Ideal.ofBits_zero_f32 Ideal.ofBits_one_f32

section
variable (Y : Vec Ideal S8x8x4x32x128 .f32) (x : Fin 32 → ℕ → Q)
  (hY : ∀ (m lo : Fin 8) (dp : Fin 4) (r : Fin 32) (lane : Fin 128), q (Y (ix5 m lo dp r lane)) = bfs 12 (x r) (pos m.val lo.val dp.val lane.val))

include hY in
theorem mag_q (lo : Fin 8) (rb : Fin 4) (n : Fin 16) (r : Fin 8) (lane : Fin 128) :
    magOf (fun dg p => gOf Y lo rb (dpOf dg p)) n (ix2 r lane)
      = max (aq (Alg.T (x ⟨rb.val * 8 + r.val, by omega⟩) (pos (n.val / 2) lo.val (n.val % 2 * 2) lane.val)))
          (aq (Alg.T (x ⟨rb.val * 8 + r.val, by omega⟩) (pos (n.val / 2) lo.val (n.val % 2 * 2 + 1) lane.val))) := by
  have key : ∀ p : Fin 2, max (gOf Y lo rb (dpOf ⟨n.val % 2, by omega⟩ p) ⟨n.val / 2, by omega⟩ (ix2 r lane) : EReal)
      (-(gOf Y lo rb (dpOf ⟨n.val % 2, by omega⟩ p) ⟨n.val / 2, by omega⟩ (ix2 r lane) : EReal))
      = aq (Alg.T (x ⟨rb.val * 8 + r.val, by omega⟩) (pos (n.val / 2) lo.val (n.val % 2 * 2 + p.val) lane.val)) := by
    intro p
    rw [max_neg, gOf_q Y x hY]
    rfl
  exact congrArg₂ max (key 0) (key 1)

include hY in
/-- The scales of `lo` at row `rb·2 + hf` and column `(m·2 + dg)·8 + r`. -/
theorem scl_val (lo : Fin 8) (n : Fin 8) (ρ : Fin 128) :
    scl Y lo (ix2 n ρ) = gsc (Alg.T (x ⟨n.val / 2 * 8 + ρ.val % 8, by omega⟩)) (ρ.val / 16 * 32 + lo.val * 4 + ρ.val / 8 % 2 * 2 + n.val % 2) := by
  unfold scl gsc
  rw [scaleOf_apply, stackM_apply, maxH_apply, ← gmax_pairs]
  refine congrArg (fun z : EReal => sc (z * (cN : EReal))) ?_
  refine congrArg (Finset.sup (Finset.univ : Finset (Fin 64))) (funext fun k => ?_)
  rw [maxT_apply, mag_q Y x hY]
  refine congrArg₂ (fun a b => max (aq (Alg.T _ a)) (aq (Alg.T _ b))) ?_ ?_
  · unfold pos
    show ρ.val / 8 / 2 * 4096 + lo.val * 512 + (ρ.val / 8 % 2 * 2 / 2 * 256 + (n.val % 2 * 64 + k.val) / 64 * 128 + 2 * ((n.val % 2 * 64 + k.val) % 64) + ρ.val / 8 % 2 * 2 % 2) = _
    omega
  · unfold pos
    show ρ.val / 8 / 2 * 4096 + lo.val * 512 + ((ρ.val / 8 % 2 * 2 + 1) / 2 * 256 + (n.val % 2 * 64 + k.val) / 64 * 128 + 2 * ((n.val % 2 * 64 + k.val) % 64) + (ρ.val / 8 % 2 * 2 + 1) % 2) = _
    omega

end

/-! ## The scales, laid out -/

theorem zT_apply (z : Vec Ideal S1x32x128 .f32) (ρ lane : Fin 128) :
    zT z (ix2 ρ lane) = z (ix3 (0 : Fin 1) (⟨lane.val % 32, by omega⟩ : Fin 32) ρ) := by
  have e : zT z = transpose S128x128 [1, 0] (concatenate S128x128 0 (List.ofFn fun n : Fin 4 => (⟨S32x128, shapeCast S32x128 z shapeCasts_S1x32x128_S32x128⟩ : (s : Shape) × (s.Idx → Ideal .f32)))
    concatenates_S32x128_S32x128_S32x128_S32x128_S128x128_d0) transposes_S128x128_p1_0_S128x128 := rfl
  rw [e]
  rw [transpose_apply _ _ _ (ix2 ρ lane) (ix2 lane ρ) (by
    intro b
    match b with
    | ⟨0, _⟩ => rfl
    | ⟨1, _⟩ => rfl)]
  refine (concatenate_ofFn_apply (t := S128x128) (s₁ := S32x128) 0 (fun n : Fin 4 => shapeCast S32x128 z shapeCasts_S1x32x128_S32x128) _ rfl 32 rfl (ix2 lane ρ) ⟨lane.val / 32, by omega⟩ rfl
    (ix2 (⟨lane.val % 32, by omega⟩ : Fin 32) ρ) rfl ?_).trans ?_
  · intro b hb
    match b with
    | ⟨0, _⟩ => exact absurd rfl hb
    | ⟨1, _⟩ => rfl
  · refine shapeCast_apply _ _ _ _ ?_
    rw [Shape.rowMajor_val_two, Shape.rowMajor_val_three]
    show (0 * 32 + lane.val % 32) * 128 + ρ.val = lane.val % 32 * 128 + ρ.val
    omega

theorem zPiece_apply (zt : FVec Ideal S128x128 .f32) (v : Fin 2) (k : Fin 8) (r : Fin 8) (lane : Fin 128) :
    zPiece zt v k (ix2 r lane) = zt (ix2 (⟨((v.val * 4 + k.val / 2) * 2 + k.val % 2) * 8 + r.val, by omega⟩ : Fin 128) lane) := by
  unfold zPiece
  refine extractStridedSlice_apply _ _ _ _ _ ?_
  intro a
  match a with
  | ⟨0, _⟩ =>
    show ((v.val * 4 + k.val / 2) * 2 + k.val % 2) * 8 + r.val = ((v.val * 4 + k.val / 2) % 8 * 2 + k.val % 2) * 8 + r.val
    omega
  | ⟨1, _⟩ => show lane.val = 0 + lane.val; omega

set_option maxRecDepth 65536 in
/-- The lanes piece `k` is taken on. -/
theorem mask_fin : ∀ (lane : Fin 128) (k : Fin 8),
    IntOp.andi (IntOp.cmpi .eq (IntOp.shrsi .vector (BitVec.ofNat 32 lane.val) 5#32) (BitVec.ofNat 32 (k.val / 2)))
      (IntOp.cmpi .eq (IntOp.andi (IntOp.shrsi .vector (BitVec.ofNat 32 lane.val) 1#32) 1#32) (BitVec.ofNat 32 (k.val % 2)))
      = BitVec.ofBool (decide (lane.val / 32 * 2 + lane.val / 2 % 2 = k.val)) := by
  have h5 : ∀ lane : Fin 128, IntOp.shrsi .vector (BitVec.ofNat 32 lane.val) 5#32 = BitVec.ofNat 32 (lane.val / 32) := by decide
  have h1 : ∀ lane : Fin 128, IntOp.andi (IntOp.shrsi .vector (BitVec.ofNat 32 lane.val) 1#32) 1#32 = BitVec.ofNat 32 (lane.val / 2 % 2) := by decide
  have hk : ∀ (a : Fin 4) (b : Fin 2) (k : Fin 8), IntOp.andi (IntOp.cmpi .eq (BitVec.ofNat 32 a.val) (BitVec.ofNat 32 (k.val / 2)))
      (IntOp.cmpi .eq (BitVec.ofNat 32 b.val) (BitVec.ofNat 32 (k.val % 2))) = BitVec.ofBool (decide (a.val * 2 + b.val = k.val)) := by decide
  intro lane k
  rw [h5, h1]
  exact hk ⟨lane.val / 32, by omega⟩ ⟨lane.val / 2 % 2, by omega⟩ k

theorem pick_apply (zt : FVec Ideal S128x128 .f32) (v : Fin 2) (k : Fin 8) (acc : FVec Ideal S8x128 .f32) (r : Fin 8) (lane : Fin 128) :
    pick zt v k acc (ix2 r lane) = if lane.val / 32 * 2 + lane.val / 2 % 2 = k.val then zPiece zt v k (ix2 r lane) else acc (ix2 r lane) := by
  have hl : Body.lane (ix2 r lane) = BitVec.ofNat 32 lane.val := by
    unfold Body.lane
    rw [iota_apply]
    show BitVec.ofNat 32 (0 * 128 + lane.val) = _
    rw [Nat.zero_mul, Nat.zero_add]
  unfold pick
  show Scalar.select (IntOp.andi (IntOp.cmpi .eq (IntOp.shrsi .vector (Body.lane (ix2 r lane)) 5#32) (BitVec.ofNat 32 (k.val / 2)))
      (IntOp.cmpi .eq (IntOp.andi (IntOp.shrsi .vector (Body.lane (ix2 r lane)) 1#32) 1#32) (BitVec.ofNat 32 (k.val % 2)))) _ _ = _
  rw [hl, mask_fin]
  unfold Scalar.select
  by_cases h : lane.val / 32 * 2 + lane.val / 2 % 2 = k.val <;> simp [h]

theorem scBlock_apply (zt : FVec Ideal S128x128 .f32) (v : Fin 2) (r : Fin 8) (lane : Fin 128) :
    scBlock zt v (ix2 r lane) = zt (ix2 (⟨((v.val * 4 + lane.val / 32) * 2 + lane.val / 2 % 2) * 8 + r.val, by omega⟩ : Fin 128) lane) := by
  have hk : lane.val / 32 * 2 + lane.val / 2 % 2 < 8 := by omega
  have e : scBlock zt v (ix2 r lane) = zPiece zt v ⟨_, hk⟩ (ix2 r lane) := by
    unfold scBlock
    rw [pick_apply, pick_apply, pick_apply, pick_apply, pick_apply, pick_apply, pick_apply]
    generalize lane.val / 32 * 2 + lane.val / 2 % 2 = n at hk ⊢
    interval_cases n <;> rfl
  rw [e, zPiece_apply]
  refine congrArg (fun z => zt (ix2 z lane)) (Fin.ext ?_)
  show ((v.val * 4 + (lane.val / 32 * 2 + lane.val / 2 % 2) / 2) * 2 + (lane.val / 32 * 2 + lane.val / 2 % 2) % 2) * 8 + r.val = ((v.val * 4 + lane.val / 32) * 2 + lane.val / 2 % 2) * 8 + r.val
  omega

section
variable (Y : Vec Ideal S8x8x4x32x128 .f32) (x : Fin 32 → ℕ → Q)
  (hY : ∀ (m lo : Fin 8) (dp : Fin 4) (r : Fin 32) (lane : Fin 128), q (Y (ix5 m lo dp r lane)) = bfs 12 (x r) (pos m.val lo.val dp.val lane.val))

include hY in
/-- The block's scales. -/
theorem Of_val (r : Fin 32) (g : Fin 256) : Of (Zf Y) (ix2 r g) = gsc (Alg.T (x r)) g.val := by
  show scBlock (zT (zb (Zf Y) (⟨r.val / 8, by omega⟩ : Fin 4))) (⟨g.val / 128, by omega⟩ : Fin 2)
    (ix2 (⟨r.val % 8, by omega⟩ : Fin 8) (⟨g.val % 128, by omega⟩ : Fin 128)) = _
  rw [scBlock_apply, zT_apply]
  unfold zb
  have ei : ∀ (rb : Fin 4) (k : Fin 32) (ρ : Fin 128), (Rect.unit (s := S4x32x128) ![rb.val, 0, 0] S1x32x128.size (inbZ1 rb)).toLoadRect.idx (ix3 (0 : Fin 1) k ρ) = ix3 rb k ρ := by
    intro rb k ρ
    show (Rect.unit (s := S4x32x128) ![rb.val, 0, 0] S1x32x128.size (inbZ1 rb)).emb (ix3 (0 : Fin 1) k ρ) = _
    funext a
    apply Fin.ext
    rw [Rect.emb_apply]
    fin_cases a
    · show rb.val + 1 * 0 = rb.val; omega
    · show 0 + 1 * k.val = k.val; omega
    · show 0 + 1 * ρ.val = ρ.val; omega
  rw [ei]
  refine (scl_val Y x hY _ _ _).trans ?_
  refine congr (congrArg (fun z => gsc (Alg.T (x z))) (Fin.ext ?_)) ?_
  · show (r.val / 8 * 2 + g.val % 128 % 32 % 2) / 2 * 8 + (((g.val / 128 * 4 + g.val % 128 / 32) * 2 + g.val % 128 / 2 % 2) * 8 + r.val % 8) % 8 = r.val
    omega
  · show (((g.val / 128 * 4 + g.val % 128 / 32) * 2 + g.val % 128 / 2 % 2) * 8 + r.val % 8) / 16 * 32 + g.val % 128 % 32 / 4 * 4
      + (((g.val / 128 * 4 + g.val % 128 / 32) * 2 + g.val % 128 / 2 % 2) * 8 + r.val % 8) / 8 % 2 * 2 + (r.val / 8 * 2 + g.val % 128 % 32 % 2) % 2 = g.val
    omega

end

end Cert.KernelIdeal.Body
-- ==== Proof.KerC.lean ====
/- The kernel's codes at an index. -/
module

public import proofs.«01_k».proof.Proof.KerS
public import Idealize.ShloMosaic.Lib.BitcastPair
public import Idealize.ShloMosaic.Lib.BitcastFour

@[expose] public section

set_option maxRecDepth 16384

noncomputable section

namespace Cert.KernelIdeal.Body

open Idealize.ShloMosaic Idealize.ShloMosaic.TcCoe Idealize.SL.Sem Idealize.ShloMosaic.Tactic
open Cert.KernelIdeal
open Shapes1.Facts₀ Shapes2.Facts₀
open Cert.Alg

variable [Facts]

/-! ## The multipliers -/

theorem multT_apply (mult : FVec Ideal S8x128 .f32) (rb : Fin 4) (ρ lane : Fin 128) :
    multT mult rb (ix2 ρ lane) = mult (ix2 (⟨rb.val * 2 + lane.val / 64, by omega⟩ : Fin 8) ρ) := by
  have e : multT mult rb = transpose S128x128 [1, 0] (concatenate S128x128 0 (List.ofFn fun n : Fin 2 => (⟨S64x128, spread mult rb n⟩ : (s : Shape) × (s.Idx → Ideal .f32)))
    concatenates_S64x128_S64x128_S128x128_d0) transposes_S128x128_p1_0_S128x128 := rfl
  rw [e]
  rw [transpose_apply _ _ _ (ix2 ρ lane) (ix2 lane ρ) (by
    intro b
    match b with
    | ⟨0, _⟩ => rfl
    | ⟨1, _⟩ => rfl)]
  refine (concatenate_ofFn_apply (t := S128x128) (s₁ := S64x128) 0 (fun n : Fin 2 => spread mult rb n) _ rfl 64 rfl (ix2 lane ρ) ⟨lane.val / 64, by omega⟩ rfl
    (ix2 (⟨lane.val % 64, by omega⟩ : Fin 64) ρ) rfl ?_).trans ?_
  · intro b hb
    match b with
    | ⟨0, _⟩ => exact absurd rfl hb
    | ⟨1, _⟩ => rfl
  · unfold spread
    refine (broadcastTo_apply (s := S1x128) (t := S64x128) _ _ _ (ix2 (0 : Fin 1) ρ) ?_).trans ?_
    · intro a
      match a with
      | ⟨0, _⟩ => rfl
      | ⟨1, _⟩ => rfl
    refine (shapeCast_apply _ _ _ (ix2 (0 : Fin 1) ρ) rfl).trans ?_
    refine extractStridedSlice_apply _ _ _ _ _ ?_
    intro a
    match a with
    | ⟨0, _⟩ => rfl
    | ⟨1, _⟩ => show ρ.val = 0 + ρ.val; omega

theorem mulsOf_apply (mt : Fin 4 → FVec Ideal S128x128 .f32) (m : Fin 8) (dg : Fin 2) (r : Fin 32) (lane : Fin 128) :
    mulsOf mt m dg (ix2 r lane) = mt ⟨r.val / 8, by omega⟩ (ix2 (⟨(m.val * 2 + dg.val) * 8 + r.val % 8, by omega⟩ : Fin 128) lane) := by
  have e : mulsOf mt m dg = concatenate S32x128 0 (List.ofFn fun n : Fin 4 => (⟨S8x128, extractStridedSlice S8x128 ![(m.val * 2 + dg.val) * 8, 0] (mt n) (slT m dg)⟩ : (s : Shape) × (s.Idx → Ideal .f32)))
    concatenates_S8x128_S8x128_S8x128_S8x128_S32x128_d0 := rfl
  rw [e]
  refine (concatenate_ofFn_apply (t := S32x128) (s₁ := S8x128) 0 (fun n : Fin 4 => extractStridedSlice S8x128 ![(m.val * 2 + dg.val) * 8, 0] (mt n) (slT m dg)) _ rfl 8 rfl (ix2 r lane) ⟨r.val / 8, by omega⟩ rfl
    (ix2 (⟨r.val % 8, by omega⟩ : Fin 8) lane) rfl ?_).trans ?_
  · intro b hb
    match b with
    | ⟨0, _⟩ => exact absurd rfl hb
    | ⟨1, _⟩ => rfl
  · refine extractStridedSlice_apply _ _ _ _ _ ?_
    intro a
    match a with
    | ⟨0, _⟩ => rfl
    | ⟨1, _⟩ => show lane.val = 0 + lane.val; omega

/-! ## The words -/

/-- A bitcast of an array of rank two, bit by bit. -/
theorem bc2 {R r n v w : ℕ} (x : (⟨2, ![R, n]⟩ : Shape).Idx → BitVec v) (h : (⟨2, ![R, n]⟩ : Shape).Bitcasts v ⟨2, ![r, n]⟩ w)
    (a : Fin r) (l : Fin n) (i : ℕ) (hi : i < w) (hv : 0 < v) (p : Fin R) (hp : p.val = (a.val * w + i) / v) :
    (bitcast ⟨2, ![r, n]⟩ w x h (ix2 a l)).getLsbD i = (x (ix2 p l)).getLsbD ((a.val * w + i) % v) := by
  rw [bitcast_getLsbD x h _ i hi hv]
  congr 2
  funext c
  match c with
  | ⟨0, _⟩ => exact Fin.ext ((h.srcIdx_row _ _ _ ⟨0, Nat.zero_lt_two⟩ rfl).trans hp.symm)
  | ⟨1, _⟩ => exact Fin.ext (h.srcIdx_other _ _ _ ⟨1, Nat.one_lt_two⟩ (show ¬ (1 + 2 = 2) by decide))

/-- The packed byte of two words whose halves hold small codes. -/
theorem packOf_apply (u0 u1 : IVec S16x128 32) (α β : ℕ → ℕ) (lane : Fin 128) (hα : ∀ r, α r < 16) (hβ : ∀ r, β r < 16)
    (h0 : ∀ R : Fin 16, (u0 (ix2 R lane)).toNat = α (2 * R.val + 1) * 65536 + α (2 * R.val))
    (h1 : ∀ R : Fin 16, (u1 (ix2 R lane)).toNat = β (2 * R.val + 1) * 65536 + β (2 * R.val)) (r : Fin 32) :
    packOf u0 u1 (ix2 r lane) = BitVec.ofNat 8 (α r.val + 16 * β r.val) ^^^ 0x88#8 := by
  apply BitVec.eq_of_getLsbD_eq
  intro i hi
  unfold packOf
  have hu : ∀ R : Fin 16, (addi u0 (shli u1 (broadcast S16x128 4#32)) (ix2 R lane)).toNat
      = (α (2 * R.val + 1) + 16 * β (2 * R.val + 1)) * 65536 + (α (2 * R.val) + 16 * β (2 * R.val)) := by
    intro R
    have := hα (2 * R.val); have := hα (2 * R.val + 1); have := hβ (2 * R.val); have := hβ (2 * R.val + 1)
    show ((u0 (ix2 R lane)) + (u1 (ix2 R lane)) <<< 4).toNat = _
    rw [BitVec.toNat_add, BitVec.toNat_shiftLeft, h0, h1, Nat.shiftLeft_eq]
    omega
  generalize addi u0 (shli u1 (broadcast S16x128 4#32)) = u at hu ⊢
  rw [bc2 (R := 8) (r := 32) (n := 128) _ _ r lane i hi (by norm_num) ⟨r.val / 4, by omega⟩ (by show r.val / 4 = (r.val * 8 + i) / 32; omega)]
  have hj : (r.val * 8 + i) % 32 < 32 := Nat.mod_lt _ (by norm_num)
  have hx : ∀ (a b : IVec S8x128 32) (p : S8x128.Idx) (j : ℕ), (xori a b p).getLsbD j = Bool.xor ((a p).getLsbD j) ((b p).getLsbD j) := by
    intro a b p j
    show ((a p) ^^^ (b p)).getLsbD j = _
    rw [BitVec.getLsbD_xor]
  rw [hx, BitVec.getLsbD_xor]
  refine congrArg₂ Bool.xor ?_ ?_
  · rw [bc2 (R := 32) (r := 8) (n := 128) _ _ _ lane _ hj (by norm_num) r (by show r.val = (r.val / 4 * 32 + (r.val * 8 + i) % 32) / 8; omega)]
    have e1 : ((⟨r.val / 4, by omega⟩ : Fin 8).val * 32 + (r.val * 8 + i) % 32) % 8 = i := by
      show (r.val / 4 * 32 + (r.val * 8 + i) % 32) % 8 = i
      omega
    rw [e1]
    have ht : ∀ (a : IVec S32x128 16) (p : S32x128.Idx), (trunci 8 a natLt_8_16 p).getLsbD i = (a p).getLsbD i := by
      intro a p
      show ((a p).setWidth 8).getLsbD i = _
      rw [BitVec.getLsbD_setWidth]
      simp [hi]
    rw [ht]
    rw [bc2 (R := 16) (r := 32) (n := 128) u _ r lane i (by omega) (by norm_num) ⟨r.val / 2, by omega⟩ (by show r.val / 2 = (r.val * 16 + i) / 32; omega)]
    rw [BitVec.getLsbD, BitVec.getLsbD, hu, BitVec.toNat_ofNat, Nat.testBit_eq_decide_div_mod_eq, Nat.testBit_eq_decide_div_mod_eq]
    refine decide_eq_decide.2 ?_
    have := hα r.val; have := hβ r.val
    have := hα (2 * (r.val / 2)); have := hα (2 * (r.val / 2) + 1); have := hβ (2 * (r.val / 2)); have := hβ (2 * (r.val / 2) + 1)
    show ((α (2 * (r.val / 2) + 1) + 16 * β (2 * (r.val / 2) + 1)) * 65536 + (α (2 * (r.val / 2)) + 16 * β (2 * (r.val / 2)))) / 2 ^ ((r.val * 16 + i) % 32) % 2 = 1 ↔ _
    rcases Nat.mod_two_eq_zero_or_one r.val with hr | hr
    · have e2 : 2 * (r.val / 2) = r.val := by omega
      have e3 : (r.val * 16 + i) % 32 = i := by omega
      rw [e2] at *
      rw [e3]
      generalize α r.val = A at *
      generalize β r.val = B at *
      interval_cases i <;> omega
    · have e2 : 2 * (r.val / 2) + 1 = r.val := by omega
      have e3 : (r.val * 16 + i) % 32 = 16 + i := by omega
      rw [e2] at *
      rw [e3]
      generalize α r.val = A at *
      generalize β r.val = B at *
      interval_cases i <;> omega
  · show (2290649224#32).getLsbD ((r.val * 8 + i) % 32) = _
    have e4 : (r.val * 8 + i) % 32 = r.val % 4 * 8 + i := by omega
    rw [e4]
    have : r.val % 4 < 4 := Nat.mod_lt _ (by norm_num)
    generalize r.val % 4 = k at this
    interval_cases k <;> interval_cases i <;> rfl

/-- A word of biased codes, from the codes of its two rows. -/
theorem wordsOf_toNat (y mul : FVec Ideal S32x128 .f32) (α : ℕ → ℕ) (lane : Fin 128) (hα : ∀ r, α r < 16)
    (hk : ∀ r : Fin 32, Ideal.fptosi 32 (Ideal.liftRound Ideal.roundHalfEven (min ((7 : ℝ) : EReal) (max ((-7 : ℝ) : EReal)
      ((y (ix2 r lane) : EReal) * (mul (ix2 r lane) : EReal)))) + ((8 : ℝ) : EReal)) = BitVec.ofNat 32 (α r.val)) (R : Fin 16) :
    (wordsOf y mul (ix2 R lane)).toNat = α (2 * R.val + 1) * 65536 + α (2 * R.val) := by
  unfold wordsOf
  have h7 : ∀ p, (broadcast S32x128 (Scalar.ofBits (F := Ideal) .f32 0x40E00000#32) p : EReal) = ((7 : ℝ) : EReal) := fun p => ofBits_seven
  have hm : ∀ p, (broadcast S32x128 (Scalar.ofBits (F := Ideal) .f32 0xC0E00000#32) p : EReal) = ((-7 : ℝ) : EReal) := fun p => ofBits_neg_seven
  have h8 : ∀ p, (broadcast S32x128 (Scalar.ofBits (F := Ideal) .f32 0x41000000#32) p : EReal) = ((8 : ℝ) : EReal) := fun p => ofBits_eight
  generalize broadcast S32x128 (Scalar.ofBits (F := Ideal) .f32 0x40E00000#32) = A at h7 ⊢
  generalize broadcast S32x128 (Scalar.ofBits (F := Ideal) .f32 0xC0E00000#32) = B at hm ⊢
  generalize broadcast S32x128 (Scalar.ofBits (F := Ideal) .f32 0x41000000#32) = C at h8 ⊢
  have hc : ∀ r : Fin 32, fptosi 32 (addf (roundeven (minimumf A (maximumf B (mulf y mul)))) C : FVec Ideal S32x128 .f32) (ix2 r lane) = BitVec.ofNat 32 (α r.val) := by
    intro r
    rw [← hk r, ← h7 (ix2 r lane), ← hm (ix2 r lane), ← h8 (ix2 r lane)]
    generalize ix2 r lane = p
    rw [fptosi_apply]
    rfl
  generalize fptosi 32 (addf (roundeven (minimumf A (maximumf B (mulf y mul)))) C : FVec Ideal S32x128 .f32) = u at hc ⊢
  have ht : ∀ r : Fin 32, (trunci 16 u natLt_16_32 (ix2 r lane)).toNat = α r.val := by
    intro r
    show ((u (ix2 r lane)).setWidth 16).toNat = _
    rw [hc, BitVec.toNat_setWidth, BitVec.toNat_ofNat]
    have := hα r.val
    omega
  rw [bitcast_16_32]
  have eb : ∀ (p : ℕ) (hp) (hp32 : p < 32), bitcasts_S32x128_w16_S16x128_w32.srcIdx (ix2 R lane) p hp = ix2 (⟨p, hp32⟩ : Fin 32) lane := by
    intro p hp hp32
    funext c
    match c with
    | ⟨0, _⟩ => exact Fin.ext (bitcasts_S32x128_w16_S16x128_w32.srcIdx_row _ _ _ ⟨0, Nat.zero_lt_two⟩ rfl)
    | ⟨1, _⟩ => exact Fin.ext (bitcasts_S32x128_w16_S16x128_w32.srcIdx_other _ _ _ ⟨1, Nat.one_lt_two⟩ (by decide))
  rw [eb _ _ (by show 2 * R.val + 1 < 32; omega), eb _ _ (by show 2 * R.val < 32; omega), BitVec.toNat_append, ht, ht]
  show α (2 * R.val + 1) <<< 16 ||| α (2 * R.val) = _
  have := hα (2 * R.val)
  rw [← Nat.shiftLeft_add_eq_or_of_lt (by omega), Nat.shiftLeft_eq]

section
variable (Y : Vec Ideal S8x8x4x32x128 .f32) (x : Fin 32 → ℕ → Q)
  (hY : ∀ (m lo : Fin 8) (dp : Fin 4) (r : Fin 32) (lane : Fin 128), q (Y (ix5 m lo dp r lane)) = bfs 12 (x r) (pos m.val lo.val dp.val lane.val))

include hY in
theorem mul_val (lo m : Fin 8) (dg : Fin 2) (r : Fin 32) (lane : Fin 128) :
    mulsOf (multT (multOf (scl Y lo))) m dg (ix2 r lane)
      = Ideal.div (cN : EReal) (gsc (Alg.T (x r)) (m.val * 32 + lo.val * 4 + dg.val * 2 + lane.val / 64)) := by
  rw [mulsOf_apply, multT_apply]
  unfold multOf
  rw [divf_apply, Ideal.divf_def]
  refine congrArg₂ Ideal.div ofBits_cN ?_
  rw [scl_val Y x hY]
  refine congr (congrArg (fun z => gsc (Alg.T (x z))) (Fin.ext ?_)) ?_
  · show (r.val / 8 * 2 + lane.val / 64) / 2 * 8 + ((m.val * 2 + dg.val) * 8 + r.val % 8) % 8 = r.val
    omega
  · show ((m.val * 2 + dg.val) * 8 + r.val % 8) / 16 * 32 + lo.val * 4 + ((m.val * 2 + dg.val) * 8 + r.val % 8) / 8 % 2 * 2 + (r.val / 8 * 2 + lane.val / 64) % 2 = _
    omega

include hY in
/-- One block's codes. -/
theorem codeOf_val (lo m : Fin 8) (dg : Fin 2) (r : Fin 32) (lane : Fin 128) :
    codeOf Y lo m dg (ix2 r lane) = gbyte (Alg.T (x r)) ((m.val * 8 + lo.val) * 256 + dg.val * 128 + lane.val) := by
  let α (p : ℕ) (r : ℕ) : ℕ := if h : r < 32 then (gk (Alg.T (x ⟨r, h⟩)) (2 * ((m.val * 8 + lo.val) * 256 + dg.val * 128 + lane.val) + p) + 8).toNat else 0
  have hα : ∀ p r, α p r < 16 := by
    intro p r
    show (if h : r < 32 then (gk (Alg.T (x ⟨r, h⟩)) (2 * ((m.val * 8 + lo.val) * 256 + dg.val * 128 + lane.val) + p) + 8).toNat else 0) < 16
    split
    · rename_i h
      have := gk_bounds (Alg.T (x ⟨r, h⟩)) (2 * ((m.val * 8 + lo.val) * 256 + dg.val * 128 + lane.val) + p)
      omega
    · omega
  have hαv : ∀ (p : ℕ) (r : Fin 32), (α p r.val : ℤ) = gk (Alg.T (x r)) (2 * ((m.val * 8 + lo.val) * 256 + dg.val * 128 + lane.val) + p) + 8 := by
    intro p r
    show ((if h : r.val < 32 then (gk (Alg.T (x ⟨r.val, h⟩)) (2 * ((m.val * 8 + lo.val) * 256 + dg.val * 128 + lane.val) + p) + 8).toNat else 0 : ℕ) : ℤ) = _
    rw [dif_pos r.isLt, Fin.eta]
    have := gk_bounds (Alg.T (x r)) (2 * ((m.val * 8 + lo.val) * 256 + dg.val * 128 + lane.val) + p)
    omega
  have hw : ∀ (p : Fin 2) (R : Fin 16), (wordsOf (yb (Y2 Y) m lo (dpOf dg p)) (mulsOf (multT (multOf (scl Y lo))) m dg) (ix2 R lane)).toNat
      = α p.val (2 * R.val + 1) * 65536 + α p.val (2 * R.val) := by
    intro p R
    refine wordsOf_toNat _ _ (α p.val) lane (hα p.val) (fun r => ?_) R
    have hpos : pos m.val lo.val (dg.val * 2 + p.val) lane.val = 2 * ((m.val * 8 + lo.val) * 256 + dg.val * 128 + lane.val) + p.val := by
      unfold pos
      omega
    have hy := yb_q Y x hY m lo (dpOf dg p) r lane
    rw [show (dpOf dg p).val = dg.val * 2 + p.val from rfl, hpos] at hy
    have hq := ker_quot (Alg.T (x r)) _ _ hy
    rw [mul_val Y x hY]
    rw [show m.val * 32 + lo.val * 4 + dg.val * 2 + lane.val / 64 = (2 * ((m.val * 8 + lo.val) * 256 + dg.val * 128 + lane.val) + p.val) / 128 by omega]
    rw [hq, ← hαv, BitVec.ofInt_natCast]
  unfold codeOf
  rw [packOf_apply _ _ (α 0) (α 1) lane (hα 0) (hα 1) (hw 0) (hw 1) r]
  unfold gbyte byte
  refine congrArg (fun z => z ^^^ 0x88#8) ?_
  have a0 := hαv 0 r
  have a1 := hαv 1 r
  rw [Nat.add_zero] at a0
  rw [← a0, ← a1, ← BitVec.ofInt_natCast]
  push_cast
  rfl

include hY in
/-- The block's codes. -/
theorem Cf_val (r : Fin 32) (c : Fin 16384) : Cf Y (ix2 r c) = gbyte (Alg.T (x r)) c.val := by
  refine (codeOf_val Y x hY ⟨c.val / 256 % 8, by omega⟩ ⟨c.val / 2048, by omega⟩ ⟨c.val / 128 % 2, by omega⟩ r ⟨c.val % 128, by omega⟩).trans ?_
  refine congrArg (gbyte (Alg.T (x r))) ?_
  show (c.val / 2048 * 8 + c.val / 256 % 8) * 256 + c.val / 128 % 2 * 128 + c.val % 128 = c.val
  omega

end

end Cert.KernelIdeal.Body
-- ==== Proof.HostIn.lean ====
/- What the host lines before the kernel leave: the rows, the signs, the Hadamard matrix. -/
module

public import proofs.«01_k».proof.Proof.Own
public import proofs.«01_k».proof.Proof.KerC

@[expose] public section

set_option maxRecDepth 16384

noncomputable section

namespace Cert.KernelIdeal.Host

open Idealize.ShloMosaic Idealize.ShloMosaic.TcCoe Idealize.SL.Sem Idealize.ShloMosaic.Tactic
open Cert.KernelIdeal Cert.KernelIdeal.Gen Cert.KernelIdeal.Own Cert.KernelIdeal.Body
open Cert.Alg

/-- The rows' and the columns' numbers met bit by bit. -/
def meet : IVec S512x512 32 :=
  andi (broadcastInDim S512x512 ![0, 1] bcast_S512x1_S512x512_0_1 (broadcastInDim S512x1 ![0] bcast_S512_S512x1_0 (iotaInDim S512 32 0)))
    (broadcastInDim S512x512 ![0, 1] bcast_S1x512_S512x512_0_1 (broadcastInDim S1x512 ![1] bcast_S512_S1x512_1 (iotaInDim S512 32 0)))

/-- A word everywhere. -/
def allW (b : BitVec 32) : IVec S512x512 32 := broadcastInDim S512x512 ![] bcast_S_S512x512 (constantI S_ 32 b)

/-- One more bit of the parity. -/
def turn (b : BitVec 32) (acc : IVec S512x512 32) : IVec S512x512 32 :=
  xori acc (andi (Host.shrsi meet (allW b)) (allW 1#32))

/-- The parity of the bits met. -/
def par : IVec S512x512 32 :=
  turn 9#32 (turn 8#32 (turn 7#32 (turn 6#32 (turn 5#32 (turn 4#32 (turn 3#32 (turn 2#32 (turn 1#32 (turn 0#32 (allW 0#32))))))))))

/-- The numbers of the columns, as the kernel orders them. -/
def cols : IVec S512 32 := fun i => lit0 (S512.rowMajor i)

/-- The same as an index: a negative number would count from the end, and none is. -/
def order : IVec S512x1 32 :=
  broadcastInDim S512x1 ![0] bcast_S512_S512x1_0
    (select (constantI S512 1 0#1) (addi cols (broadcastInDim S512 ![] bcast_S_S512 (constantI S_ 32 512#32))) cols)

/-- The Hadamard matrix in the natural order of its columns. -/
def nat : FVec Ideal S512x512 .f32 :=
  subf (broadcastInDim S512x512 ![] bcast_S_S512x512 (constant S_ .f32 0x3F800000#32))
    (mulf (broadcastInDim S512x512 ![] bcast_S_S512x512 (constant S_ .f32 0x40000000#32)) (sitofp .f32 par))

/-- The Hadamard matrix, its columns in the kernel's order. -/
def had : FVec Ideal S512x512 .bf16 :=
  truncf .bf16 (Host.gather gather_S512x512_S512x1_S512x512_0_1_n_n_1_1_5121 nat order) bitsLt_bf16_f32

variable (m : (ℓ : Loc nD τ sig) → Buf (Elt Ideal) ℓ) (c : Dev nD)

theorem V_had : V m c main_v71 = had := by
  show StableHlo.after (List.flatten [hostOps0]) (fun b => m (c, b)) (Proc.devRef .tc main_v71) = had
  simp only [List.flatten_cons, List.flatten_nil, List.append_nil]
  unfold hostOps0
  after_reads_simp
  rfl

theorem V_rows : V m c main_v0 = (shapeCast S1920x32768 (m ((c : Thread nD τ).loc main_arg0)) shapeCasts_S3x640x32768_S1920x32768 : FVec Ideal S1920x32768 .bf16) := by
  show StableHlo.after (List.flatten [hostOps0]) (fun b => m (c, b)) (Proc.devRef .tc main_v0) = _
  simp only [List.flatten_cons, List.flatten_nil, List.append_nil]
  unfold hostOps0
  after_reads_simp
  rfl

theorem V_signs : V m c main_v3 = (broadcastInDim S16x32768 ![0, 1] bcast_S1x32768_S16x32768_0_1 (broadcastInDim S1x32768 ![1] bcast_S32768_S1x32768_1
    (truncf .bf16 (m ((c : Thread nD τ).loc main_arg1) : FVec Ideal S32768 .f32) bitsLt_bf16_f32)) : FVec Ideal S16x32768 .bf16) := by
  show StableHlo.after (List.flatten [hostOps0]) (fun b => m (c, b)) (Proc.devRef .tc main_v3) = _
  simp only [List.flatten_cons, List.flatten_nil, List.append_nil]
  unfold hostOps0
  after_reads_simp

/-- Row `640 i + j` of the rows is row `(i, j)` of the argument. -/
theorem V_rows_apply (r : Fin 1920) (n : Fin 32768) :
    (V m c main_v0 : FVec Ideal S1920x32768 .bf16) (ix2 r n)
      = (m ((c : Thread nD τ).loc main_arg0) : FVec Ideal S3x640x32768 .bf16) (ix3 (⟨r.val / 640, by omega⟩ : Fin 3) (⟨r.val % 640, by omega⟩ : Fin 640) n) := by
  rw [V_rows]
  refine shapeCast_apply _ _ _ (ix3 (⟨r.val / 640, by omega⟩ : Fin 3) (⟨r.val % 640, by omega⟩ : Fin 640) n) ?_
  rw [Shape.rowMajor_val_three, Shape.rowMajor_val_two]
  show (r.val / 640 * 640 + r.val % 640) * 32768 + n.val = r.val * 32768 + n.val
  omega

theorem V_signs_apply (r : Fin 16) (n : Fin 32768) :
    ((V m c main_v3 : FVec Ideal S16x32768 .bf16) (ix2 r n) : EReal)
      = ((m ((c : Thread nD τ).loc main_arg1) : FVec Ideal S32768 .f32) (ix1 n) : EReal) := by
  rw [V_signs]
  refine (broadcastInDim_apply (s := S1x32768) (t := S16x32768) _ _ _ _ (ix2 (0 : Fin 1) n) ?_).trans ?_
  · intro a
    match a with
    | ⟨0, _⟩ => rfl
    | ⟨1, _⟩ => rfl
  refine (broadcastInDim_apply (s := S32768) (t := S1x32768) _ _ _ _ (ix1 n) ?_).trans rfl
  intro a
  match a with
  | ⟨0, _⟩ => rfl

/-! ## The Hadamard matrix's entries -/

theorem allW_apply (b : BitVec 32) (p : S512x512.Idx) : allW b p = b := rfl

theorem meet_apply (k n : Fin 512) : meet (ix2 k n) = BitVec.ofNat 32 k.val &&& BitVec.ofNat 32 n.val := by
  have e : ∀ (s : Shape) (a b : IVec s 32) (p : s.Idx), andi a b p = a p &&& b p := fun _ _ _ _ => rfl
  unfold meet
  rw [e]
  refine congrArg₂ (fun a b : BitVec 32 => a &&& b) ?_ ?_
  · refine (broadcastInDim_apply (s := S512x1) (t := S512x512) _ _ _ _ (ix2 k (0 : Fin 1)) ?_).trans ?_
    · intro a
      match a with
      | ⟨0, _⟩ => rfl
      | ⟨1, _⟩ => rfl
    refine (broadcastInDim_apply (s := S512) (t := S512x1) _ _ _ _ (ix1 k) ?_).trans rfl
    intro a
    match a with
    | ⟨0, _⟩ => rfl
  · refine (broadcastInDim_apply (s := S1x512) (t := S512x512) _ _ _ _ (ix2 (0 : Fin 1) n) ?_).trans ?_
    · intro a
      match a with
      | ⟨0, _⟩ => rfl
      | ⟨1, _⟩ => rfl
    refine (broadcastInDim_apply (s := S512) (t := S1x512) _ _ _ _ (ix1 n) ?_).trans rfl
    intro a
    match a with
    | ⟨0, _⟩ => rfl

/-- One bit of a small word, shifted down and masked. -/
theorem bit_word (i k n : ℕ) (hi : i < 32) (hk : k < 512) (hn : n < 512) :
    IntOp.shrsi .host (BitVec.ofNat 32 k &&& BitVec.ofNat 32 n) (BitVec.ofNat 32 i) &&& 1#32
      = if k.testBit i && n.testBit i then 1#32 else 0#32 := by
  have hi' : (BitVec.ofNat 32 i).toNat = i := by rw [BitVec.toNat_ofNat]; omega
  unfold IntOp.shrsi
  rw [if_pos (by rw [hi']; exact hi)]
  have ex : (BitVec.ofNat 32 k &&& BitVec.ofNat 32 n).toNat = k &&& n := by
    rw [BitVec.toNat_and, BitVec.toNat_ofNat, BitVec.toNat_ofNat, Nat.mod_eq_of_lt (by omega), Nat.mod_eq_of_lt (by omega)]
  have hle : k &&& n ≤ k := Nat.and_le_left
  have hmsb : (BitVec.ofNat 32 k &&& BitVec.ofNat 32 n).msb = false := by
    rw [BitVec.msb_eq_false_iff_two_mul_lt, ex]
    omega
  rw [BitVec.sshiftRight_eq', hi', BitVec.sshiftRight_eq_of_msb_false hmsb]
  apply BitVec.eq_of_toNat_eq
  rw [BitVec.toNat_and, BitVec.toNat_ushiftRight, ex]
  have e1 : (1#32).toNat = 1 := rfl
  rw [e1, Nat.and_one_is_mod, ← Nat.testBit_and]
  rw [Nat.testBit_eq_decide_div_mod_eq, Nat.shiftRight_eq_div_pow]
  by_cases h : (k &&& n) / 2 ^ i % 2 = 1
  · rw [h]; simp
  · have : (k &&& n) / 2 ^ i % 2 = 0 := by omega
    rw [this]; simp

theorem turn_val (i : ℕ) (hi : i < 32) (acc : IVec S512x512 32) (k n : Fin 512) (h : acc (ix2 k n) = if sg i k.val n.val then 1#32 else 0#32) :
    turn (BitVec.ofNat 32 i) acc (ix2 k n) = if sg (i + 1) k.val n.val then 1#32 else 0#32 := by
  have e : ∀ (s : Shape) (a b c d : IVec s 32) (p : s.Idx), xori a (andi (Host.shrsi b c) d) p = a p ^^^ (IntOp.shrsi .host (b p) (c p) &&& d p) :=
    fun _ _ _ _ _ _ => rfl
  unfold turn
  rw [e, allW_apply, allW_apply, meet_apply, bit_word i k.val n.val hi k.isLt n.isLt, h]
  have hb : ∀ a b : Bool, (if a then 1#32 else 0#32) ^^^ (if b then 1#32 else 0#32) = if Bool.xor a b then 1#32 else 0#32 := by decide
  exact hb _ _

theorem par_val (k n : Fin 512) : par (ix2 k n) = if sg 9 k.val n.val then 1#32 else 0#32 := by
  have h9 : sg 10 k.val n.val = sg 9 k.val n.val := by
    show Bool.xor (sg 9 k.val n.val) (k.val.testBit 9 && n.val.testBit 9) = _
    rw [Nat.testBit_lt_two_pow (show k.val < 2 ^ 9 from k.isLt)]
    simp
  rw [← h9]
  unfold par
  exact turn_val 9 (by norm_num) _ k n <| turn_val 8 (by norm_num) _ k n <| turn_val 7 (by norm_num) _ k n <| turn_val 6 (by norm_num) _ k n <|
    turn_val 5 (by norm_num) _ k n <| turn_val 4 (by norm_num) _ k n <| turn_val 3 (by norm_num) _ k n <| turn_val 2 (by norm_num) _ k n <|
    turn_val 1 (by norm_num) _ k n <| turn_val 0 (by norm_num) _ k n rfl

theorem ofBits_two : Ideal.ofBits .f32 0x40000000#32 = ((2 : ℝ) : EReal) := by
  simp [Ideal.ofBits, Ideal.ieee, -EReal.coe_mul]; norm_num

/-- One minus twice the parity. -/
theorem sign_apply {s : Shape} (A B : FVec Ideal s .f32) (P : IVec s 32) (p : s.Idx) (hA : (A p : EReal) = ((1 : ℝ) : EReal)) (hB : (B p : EReal) = ((2 : ℝ) : EReal))
    (b : Bool) (hP : P p = if b then 1#32 else 0#32) : (subf A (mulf B (sitofp .f32 P)) p : EReal) = if b then -1 else 1 := by
  show (A p : EReal) - (B p : EReal) * ((((P p).toInt : ℝ)) : EReal) = _
  rw [hA, hB, hP]
  cases b
  · show ((1 : ℝ) : EReal) - ((2 : ℝ) : EReal) * ((((0#32).toInt : ℝ)) : EReal) = 1
    rw [← EReal.coe_mul, ← EReal.coe_sub]
    norm_num
  · show ((1 : ℝ) : EReal) - ((2 : ℝ) : EReal) * ((((1#32).toInt : ℝ)) : EReal) = -1
    rw [← EReal.coe_mul, ← EReal.coe_sub]
    norm_num

/-- The literal lists the columns in the order of `ncol`. -/
theorem lit_val : ∀ c : Fin 512, lit0 c = BitVec.ofNat 32 (ncol c.val) := by decide +kernel

theorem order_val (c : Fin 512) : order (ix2 c (0 : Fin 1)) = BitVec.ofNat 32 (ncol c.val) := by
  unfold order
  refine (broadcastInDim_apply (s := S512) (t := S512x1) _ _ _ _ (ix1 c) ?_).trans ?_
  · intro a
    match a with
    | ⟨0, _⟩ => rfl
  have e : ∀ (s : Shape) (a b : IVec s 32) (p : s.Idx), select (constantI s 1 0#1) a b p = b p := fun _ _ _ _ => rfl
  refine (e _ _ _ _).trans ?_
  unfold cols
  rw [← lit_val c]
  refine congrArg lit0 (Fin.ext ?_)
  exact Shape.rowMajor_val_one _

/-- A gather of whole columns, read at an index: row `k` of the column that the index names. -/
theorem gather_col {α : Type} (d : GatherDims S512x512 S512x1 S512x512) (hoff : d.offsetDims = [0])
    (hcoll : d.collapsedSliceDims = [1]) (hob : d.operandBatchingDims = [])
    (hsim : d.startIndexMap = [1]) (hivd : d.indexVectorDim = 1) (x : S512x512.Idx → α) (idx : IVec S512x1 32)
    (k c b : Fin 512) (hb : idx (ix2 c (0 : Fin 1)) = BitVec.ofNat 32 b.val) :
    Host.gather d x idx (ix2 k c) = x (ix2 k b) := by
  unfold Host.gather
  refine congrArg x (funext fun a => Fin.ext ?_)
  have hbN : ∀ a', a' ∉ d.operandBatchingDims := fun a' => by rw [hob]; exact List.not_mem_nil
  have hk1 : ∀ k ∈ d.batchDims, k = (1 : Fin 2) := fun k hk => by
    have hk' : k ∉ d.offsetDims := of_decide_eq_true (List.mem_filter.1 hk).2
    rw [hoff] at hk'
    have h1 : k.val ≠ 0 := fun e => hk' (List.mem_singleton.2 (Fin.ext e))
    have h2 : k.val < 2 := k.isLt
    exact Fin.ext (by show k.val = 1; omega)
  have hk0 : ∀ k ∈ d.offsetDims, k = (0 : Fin 2) := fun k hk => by rw [hoff] at hk; exact List.mem_singleton.1 hk
  have e0 : ∀ X : Fin 2, X = 0 → (ix2 k c X).val = k.val := fun X h => by subst h; rfl
  have e1 : ∀ X : Fin 2, X = 1 → (ix2 k c X).val = c.val := fun X h => by subst h; rfl
  match a with
  | ⟨1, _⟩ =>
    have hk : (1 : Fin 2) ∉ d.sKept := fun h => ((d.mem_sKept 1).1 h).1 (by rw [hcoll]; exact List.mem_singleton.2 rfl)
    have hm : (1 : Fin 2) ∈ d.startIndexMap := by rw [hsim]; exact List.mem_singleton.2 rfl
    have hsl : d.sliceSizes 1 = 1 := d.slice_collapsed 1 (by rw [hcoll]; exact List.mem_singleton.2 rfl)
    show d.start (ix2 k c) idx 1 + d.batchCoord (ix2 k c) 1 + d.offCoord (ix2 k c) 1 = b.val
    rw [d.batchCoord_eq_zero _ _ (hbN 1), d.offCoord_eq_zero _ _ hk]
    simp only [Nat.add_zero]
    unfold GatherDims.start
    rw [dif_pos hm]
    have hsi : d.siIdx (ix2 k c) ⟨d.startIndexMap.idxOf 1, List.idxOf_lt_length_iff.2 hm⟩ = ix2 c (0 : Fin 1) := by
      funext b'
      apply Fin.ext
      match b' with
      | ⟨0, _⟩ =>
        unfold GatherDims.siIdx
        rw [dif_neg (by rw [hivd]; exact Nat.zero_ne_one)]
        unfold GatherDims.siCoord
        simp only [Fin.val_cast]
        exact e1 _ (hk1 _ (List.getElem_mem _))
      | ⟨1, _⟩ =>
        unfold GatherDims.siIdx
        rw [dif_pos (by rw [hivd])]
        show List.idxOf (1 : Fin 2) d.startIndexMap = 0
        rw [hsim]; simp
    have hbl := b.isLt
    have hz : (BitVec.ofNat 32 b.val).toInt = (b.val : Int) := by
      rw [BitVec.toInt_eq_toNat_of_lt (by rw [BitVec.toNat_ofNat]; omega), BitVec.toNat_ofNat, Nat.mod_eq_of_lt (by omega)]
    rw [hsi, hb, hsl, hz]
    show min ((b.val : Int)).toNat (512 - 1) = b.val
    omega
  | ⟨0, _⟩ =>
    have hk : (0 : Fin 2) ∈ d.sKept := (d.mem_sKept 0).2 ⟨by rw [hcoll]; decide, hbN 0⟩
    have hm : (0 : Fin 2) ∉ d.startIndexMap := by rw [hsim]; decide
    show d.start (ix2 k c) idx 0 + d.batchCoord (ix2 k c) 0 + d.offCoord (ix2 k c) 0 = k.val
    rw [d.batchCoord_eq_zero _ _ (hbN 0)]
    unfold GatherDims.start
    rw [dif_neg hm]
    unfold GatherDims.offCoord
    rw [dif_pos hk]
    simp only [Nat.zero_add, Nat.add_zero]
    exact e0 _ (hk0 _ (List.getElem_mem _))

theorem had_val (k c : Fin 512) : (had (ix2 k c) : EReal) = if sg 9 k.val (ncol c.val) then -1 else 1 := by
  have hn : ncol c.val < 512 := by unfold ncol; omega
  unfold had
  have et : ∀ (s : Shape) (x : FVec Ideal s .f32) (h) (p : s.Idx), (truncf .bf16 x h p : EReal) = (x p : EReal) := fun _ _ _ _ => rfl
  refine (et _ _ _ _).trans ?_
  refine (gather_col gather_S512x512_S512x1_S512x512_0_1_n_n_1_1_5121 rfl rfl rfl rfl rfl nat order k c ⟨ncol c.val, hn⟩ (order_val c)).trans ?_
  refine sign_apply _ _ _ _ ?_ ofBits_two _ (par_val k ⟨ncol c.val, hn⟩)
  exact (Ideal.ofBits_one_f32).trans EReal.coe_one.symm

end Cert.KernelIdeal.Host

end
-- ==== Proof.Whole.lean ====
/- The two result arrays of the kernel program, element by element. -/
module

public import proofs.«01_k».proof.Proof.HostIn
public import proofs.«01_k».proof.Proof.RefVal
public import Idealize.ShloMosaic.Lib.Pipeline.ValueKit

@[expose] public section

set_option maxRecDepth 16384

noncomputable section

namespace Cert.KernelIdeal.Host

open Idealize.ShloMosaic Idealize.ShloMosaic.TcCoe Idealize.SL.Sem Idealize.ShloMosaic.Tactic
open Cert.KernelIdeal Cert.KernelIdeal.Gen Cert.KernelIdeal.Own Cert.KernelIdeal.Body
open Cert.Alg

variable (m : (ℓ : Loc nD τ sig) → Buf (Elt Ideal) ℓ) (c : Dev nD)

/-! ## The blocks -/

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![t.val, 0] := (by decide +kernel : ∀ t : Fin grid0.N, _)

theorem points (t : Fin cfg0.N) : t.val < 60 := t.isLt

theorem iblk0 (t : Fin cfg0.N) (r : Fin 32) (n : Fin 32768) :
    iblk m c 0 t (ix2 r n) = (V m c main_v0 : FVec Ideal S1920x32768 .bf16) (ix2 (⟨t.val * 32 + r.val, by have := points t; omega⟩ : Fin 1920) n) := by
  blk_simp [iblk]
  refine congrArg (V m c main_v0) ?_
  funext a
  match a with
  | ⟨0, _⟩ => apply Fin.ext; blk_simp [index0]
  | ⟨1, _⟩ => apply Fin.ext; blk_simp [index0]

theorem iblk1 (t : Fin cfg0.N) (r : Fin 16) (n : Fin 32768) :
    iblk m c 1 t (ix2 r n) = (V m c main_v3 : FVec Ideal S16x32768 .bf16) (ix2 r n) := by
  blk_simp [iblk]
  refine congrArg (V m c main_v3) ?_
  funext a
  match a with
  | ⟨0, _⟩ => apply Fin.ext; blk_simp [index1]
  | ⟨1, _⟩ => apply Fin.ext; blk_simp [index1]

theorem iblk2 (t : Fin cfg0.N) (r n : Fin 512) :
    iblk m c 2 t (ix2 r n) = (V m c main_v71 : FVec Ideal S512x512 .bf16) (ix2 r n) := by
  blk_simp [iblk]
  refine congrArg (V m c main_v71) ?_
  funext a
  match a with
  | ⟨0, _⟩ => apply Fin.ext; blk_simp [index2]
  | ⟨1, _⟩ => apply Fin.ext; blk_simp [index2]

/-! ## The arrays -/

/-- Row `r` of the signed argument. -/
def srow (r : ℕ) : ℕ → Q :=
  if h : r < 1920 then
    Cert.ReferenceIdeal.Line.row (m ((c : Thread nD τ).loc main_arg0)) (m ((c : Thread nD τ).loc main_arg1)) ⟨r / 640, by omega⟩ ⟨r % 640, by omega⟩
  else fun _ => 0

/-- What the kernel leaves of a block's transform. -/
theorem block_q (t : Fin cfg0.N) (mm lo : Fin 8) (dp : Fin 4) (r : Fin 32) (lane : Fin 128) :
    q (Y1 (iblk m c 0 t) (iblk m c 1 t) (iblk m c 2 t) (ix5 mm lo dp r lane)) = bfs 12 (srow m c (t.val * 32 + r.val)) (pos mm.val lo.val dp.val lane.val) := by
  have ht := points t
  refine Y1_q (iblk m c 0 t) (iblk m c 1 t) (iblk m c 2 t) (fun r => srow m c (t.val * 32 + r.val)) ?_ ?_ mm lo dp r lane
  · intro r r' n
    rw [iblk0, iblk1, V_rows_apply, V_signs_apply]
    unfold srow
    rw [dif_pos (show t.val * 32 + r.val < 1920 by omega)]
    unfold Cert.ReferenceIdeal.Line.row
    rw [dif_pos n.isLt]
  · intro k n
    rw [iblk2, V_had]
    exact had_val k n

/-- The codes' array. -/
def arrC : Buf (Elt Ideal) ((c : Thread nD τ).loc main_v72_0) := fun i : S1920x16384.Idx => gbyte (Alg.T (srow m c (i 0).val)) (i 1).val

/-- The scales' array. -/
def arrS : Buf (Elt Ideal) ((c : Thread nD τ).loc main_v72_1) := fun i : S1920x256.Idx => gsc (Alg.T (srow m c (i 0).val)) (i 1).val

theorem arr_codes : (dats m 0 c).arrAt 3 cfg0.N = arrC m c := by
  refine (dats m 0 c).arrAt_eq_of_covers 3 _ (by decide +kernel) fun t hf y => ?_
  blk_simp
  rw [after0_3]
  unfold outC
  refine (congrArg _ (eq_ix2 (n0 := 32) (n1 := 16384) y)).trans ?_
  refine (Cf_val _ (fun r => srow m c (t.val * 32 + r.val)) (fun mm lo dp r lane => block_q m c t mm lo dp r lane) (y 0) (y 1)).trans ?_
  show _ = gbyte (Alg.T (srow m c ((win0_3.blk t).view.emb y 0).val)) ((win0_3.blk t).view.emb y 1).val
  blk_simp [index3]

theorem arr_scales : (dats m 0 c).arrAt 4 cfg0.N = arrS m c := by
  refine (dats m 0 c).arrAt_eq_of_covers 4 _ (by decide +kernel) fun t hf y => ?_
  blk_simp
  rw [after0_4]
  unfold outO
  refine (congrArg _ (eq_ix2 (n0 := 32) (n1 := 256) y)).trans ?_
  refine (Of_val _ (fun r => srow m c (t.val * 32 + r.val)) (fun mm lo dp r lane => block_q m c t mm lo dp r lane) (y 0) (y 1)).trans ?_
  show _ = gsc (Alg.T (srow m c ((win0_4.blk t).view.emb y 0).val)) ((win0_4.blk t).view.emb y 1).val
  blk_simp [index4]

end Cert.KernelIdeal.Host

end
-- ==== Proof.Equal.lean ====
/- The two programs' results are equal over the extended reals. -/
module

public import proofs.«01_k».proof.Proof.Whole

@[expose] public section

set_option maxRecDepth 16384

noncomputable section

namespace Cert.KernelIdeal.Host

open Idealize.ShloMosaic Idealize.ShloMosaic.TcCoe Idealize.SL.Sem Idealize.ShloMosaic.Tactic
open Cert.KernelIdeal Cert.KernelIdeal.Gen Cert.KernelIdeal.Own Cert.KernelIdeal.Body
open Cert.Alg

variable (m : (ℓ : Loc nD τ sig) → Buf (Elt Ideal) ℓ) (c : Dev nD)

/-- The two results. -/
def resC : Buf (Elt Ideal) ((c : Thread nD τ).loc main_v73) :=
  (shapeCast S3x640x16384 (arrC m c : IVec S1920x16384 8) shapeCasts_S1920x16384_S3x640x16384 : IVec S3x640x16384 8)
def resS : Buf (Elt Ideal) ((c : Thread nD τ).loc main_v74) :=
  (shapeCast S3x640x256 (arrS m c : FVec Ideal S1920x256 .f32) shapeCasts_S1920x256_S3x640x256 : FVec Ideal S3x640x256 .f32)

theorem tail_codes : Pipeline.afterTail₀ cfgs (dats m) 0 (V0 m) [hostOps1] c main_v73 = resC m c := by
  unfold Pipeline.afterTail₀
  have h : Pipeline.withArrays spec0 c (V0 m c) (fun w => (dats m 0 c).arrAt w cfg0.N) (Proc.devRef .tc main_v72_0) = arrC m c :=
    (Pipeline.withArrays_arr spec0 launch0.win.arr_inj c (V0 m c) (fun w => (dats m 0 c).arrAt w cfg0.N) 3).trans (arr_codes m c)
  show StableHlo.after (List.flatten [hostOps1]) (Pipeline.withArrays spec0 c (V0 m c) (fun w => (dats m 0 c).arrAt w cfg0.N)) (Proc.devRef .tc main_v73) = _
  generalize Pipeline.withArrays spec0 c (V0 m c) (fun w => (dats m 0 c).arrAt w cfg0.N) = W at h ⊢
  simp only [List.flatten_cons, List.flatten_nil, List.append_nil]
  unfold hostOps1
  after_reads_simp
  rw [h]
  rfl

theorem tail_scales : Pipeline.afterTail₀ cfgs (dats m) 0 (V0 m) [hostOps1] c main_v74 = resS m c := by
  unfold Pipeline.afterTail₀
  have h : Pipeline.withArrays spec0 c (V0 m c) (fun w => (dats m 0 c).arrAt w cfg0.N) (Proc.devRef .tc main_v72_1) = arrS m c :=
    (Pipeline.withArrays_arr spec0 launch0.win.arr_inj c (V0 m c) (fun w => (dats m 0 c).arrAt w cfg0.N) 4).trans (arr_scales m c)
  show StableHlo.after (List.flatten [hostOps1]) (Pipeline.withArrays spec0 c (V0 m c) (fun w => (dats m 0 c).arrAt w cfg0.N)) (Proc.devRef .tc main_v74) = _
  generalize Pipeline.withArrays spec0 c (V0 m c) (fun w => (dats m 0 c).arrAt w cfg0.N) = W at h ⊢
  simp only [List.flatten_cons, List.flatten_nil, List.append_nil]
  unfold hostOps1
  after_reads_simp
  rw [h]
  rfl

/-- The kernel program ends with the two results, its arguments as they were. -/
theorem kernel_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v73) = resC m c
      ∧ r.2.mem ((c.tc : Thread nD τ).loc main_v74) = resS m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v73 (Pipeline.mem_restRefs_of main_v73 (by decide) (by decide))).trans (tail_codes m c),
      ((h c).2 main_v74 (Pipeline.mem_restRefs_of main_v74 (by decide) (by decide))).trans (tail_scales m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩) (run_main m ρ)

/-! ## The reference's results are these -/

theorem srow_eq (i : Fin 3) (j : Fin 640) :
    srow m c (i.val * 640 + j.val) = Cert.ReferenceIdeal.Line.row (m ((c : Thread nD τ).loc main_arg0)) (m ((c : Thread nD τ).loc main_arg1)) i j := by
  unfold srow
  rw [dif_pos (show i.val * 640 + j.val < 1920 by omega)]
  refine congrArg₂ (Cert.ReferenceIdeal.Line.row (m ((c : Thread nD τ).loc main_arg0)) (m ((c : Thread nD τ).loc main_arg1))) (Fin.ext ?_) (Fin.ext ?_)
  · show (i.val * 640 + j.val) / 640 = i.val
    omega
  · show (i.val * 640 + j.val) % 640 = j.val
    omega

/-- An array of rows split into batches, at an index. -/
theorem batch_apply {α : Type} {C : ℕ} (A : (⟨2, ![1920, C]⟩ : Shape).Idx → α) (h : (⟨2, ![1920, C]⟩ : Shape).ShapeCasts ⟨3, ![3, 640, C]⟩)
    (i : Fin 3) (j : Fin 640) (k : Fin C) :
    shapeCast ⟨3, ![3, 640, C]⟩ A h (ix3 i j k) = A (ix2 (⟨i.val * 640 + j.val, by omega⟩ : Fin 1920) k) := by
  refine shapeCast_apply _ _ _ _ ?_
  rw [Shape.rowMajor_val_three, Shape.rowMajor_val_two]
  rfl

open Cert.ReferenceIdeal.Line in
theorem ref_codes : codes (grouped (chain (signed (F := Ideal) (m ((c : Thread nD τ).loc main_arg0)) (m ((c : Thread nD τ).loc main_arg1))))) = resC m c := by
  funext p
  obtain ⟨i, j, k, rfl⟩ : ∃ (i : Fin 3) (j : Fin 640) (k : Fin 16384), p = ix3 i j k := ⟨p 0, p 1, p 2, eq_ix3 (n0 := 3) (n1 := 640) (n2 := 16384) p⟩
  refine (codes_val _ _ i j k).trans ?_
  refine Eq.trans ?_ (batch_apply (arrC m c : IVec S1920x16384 8) shapeCasts_S1920x16384_S3x640x16384 i j k).symm
  exact congrArg (fun z => gbyte (Alg.T z) k.val) (srow_eq m c i j).symm

open Cert.ReferenceIdeal.Line in
theorem ref_scales : scales (grouped (chain (signed (F := Ideal) (m ((c : Thread nD τ).loc main_arg0)) (m ((c : Thread nD τ).loc main_arg1))))) = resS m c := by
  funext p
  obtain ⟨i, j, k, rfl⟩ : ∃ (i : Fin 3) (j : Fin 640) (k : Fin 256), p = ix3 i j k := ⟨p 0, p 1, p 2, eq_ix3 (n0 := 3) (n1 := 640) (n2 := 256) p⟩
  refine (scales_val _ _ i j k).trans ?_
  refine Eq.trans ?_ (batch_apply (arrS m c : FVec Ideal S1920x256 .f32) shapeCasts_S1920x256_S3x640x256 i j k).symm
  exact congrArg (fun z => gsc (Alg.T z) k.val) (srow_eq m c i j).symm

end Cert.KernelIdeal.Host

namespace Cert

open Idealize.ShloMosaic Idealize.ShloMosaic.TcCoe Idealize.SL.Sem

/-- The claim that the two programs' results agree. -/
theorem equal : @algebraic_KernelIdeal_ReferenceIdeal Cert.KernelIdeal.Gen.facts Cert.ReferenceIdeal.Gen.facts := by
  intro m g m' g' _ hm
  refine ⟨Cert.KernelIdeal.Host.resC m, Cert.KernelIdeal.Host.resS m, Cert.KernelIdeal.Host.kernel_run m g, ?_⟩
  refine (θ_run _ _ _).mono (fun r h c => ?_) (Cert.ReferenceIdeal.Line.run_main (F := Ideal) m' g')
  have h0 := (hm c).1
  have h1 := (hm c).2
  refine ⟨(h c _).trans ((Cert.ReferenceIdeal.Line.ops_codes _).trans ?_), (h c _).trans ((Cert.ReferenceIdeal.Line.ops_scales _).trans ?_),
    (h c _).trans (Cert.ReferenceIdeal.Line.keep _ (Or.inl rfl) _), (h c _).trans (Cert.ReferenceIdeal.Line.keep _ (Or.inr rfl) _)⟩
  · refine Eq.trans ?_ (Cert.KernelIdeal.Host.ref_codes m c)
    exact congrArg₂ (fun a b => Cert.ReferenceIdeal.Line.codes (Cert.ReferenceIdeal.Line.grouped (Cert.ReferenceIdeal.Line.chain (Cert.ReferenceIdeal.Line.signed a b)))) h0 h1
  · refine Eq.trans ?_ (Cert.KernelIdeal.Host.ref_scales m c)
    exact congrArg₂ (fun a b => Cert.ReferenceIdeal.Line.scales (Cert.ReferenceIdeal.Line.grouped (Cert.ReferenceIdeal.Line.chain (Cert.ReferenceIdeal.Line.signed a b)))) h0 h1

end Cert

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Own
public import proofs.«01_k».proof.Proof.Twin
public import proofs.«01_k».proof.Proof.RefRun
public import proofs.«01_k».proof.Proof.Equal

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, frameP,
    fun m g _ => Cert.KernelIdeal.Own.frame m g, fun m g _ => Cert.ReferenceIdeal.Line.frame m g, trivial,
    Cert.equal⟩

end Cert.Proof

end
